-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100001x256 : Shape := ⟨2, ![100001, 256]⟩
abbrev S16384 : Shape := ⟨1, ![16384]⟩
abbrev S16384x256 : Shape := ⟨2, ![16384, 256]⟩
abbrev S256x256 : Shape := ⟨2, ![256, 256]⟩
abbrev S768x256 : Shape := ⟨2, ![768, 256]⟩
abbrev S768 : Shape := ⟨1, ![768]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S100001x256 .f32) (main_arg1 : IVec S16384 32) (main_arg2 : FVec F S16384x256 .f32) (main_arg3 : FVec F S256x256 .f32) (main_arg4 : FVec F S768x256 .f32) (main_arg5 : FVec F S768x256 .f32) (main_arg6 : FVec F S768 .f32) (main_arg7 : FVec F S768 .f32) (main_arg8 : FVec F S100001x256 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S100001x256 : Shape := ⟨2, ![100001, 256]⟩
abbrev S16384 : Shape := ⟨1, ![16384]⟩
abbrev S16384x256 : Shape := ⟨2, ![16384, 256]⟩
abbrev S256x256 : Shape := ⟨2, ![256, 256]⟩
abbrev S768x256 : Shape := ⟨2, ![768, 256]⟩
abbrev S768 : Shape := ⟨1, ![768]⟩
abbrev S100001x1x256 : Shape := ⟨3, ![100001, 1, 256]⟩
abbrev S16384x1x256 : Shape := ⟨3, ![16384, 1, 256]⟩
abbrev S1x1x256 : Shape := ⟨3, ![1, 1, 256]⟩
abbrev S1 : Shape := ⟨1, ![1]⟩
abbrev S1024x256 : Shape := ⟨2, ![1024, 256]⟩
abbrev S1024x768 : Shape := ⟨2, ![1024, 768]⟩
abbrev S1x768 : Shape := ⟨2, ![1, 768]⟩

abbrev nBuf : Space → Nat
  | .hbm => 16
  | .vmem => 19
  | .smem => 1
  | _ => 0

abbrev bufTy : (tb : Table) → Fin (tcTables nBuf tb) → BufTy
  | .hbm, ⟨0, _⟩ => ⟨S100001x256, .f32⟩
  | .hbm, ⟨1, _⟩ => ⟨S16384x256, .f32⟩
  | .hbm, ⟨2, _⟩ => ⟨S256x256, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S100001x256, .f32⟩
  | .hbm, ⟨8, _⟩ => ⟨S100001x1x256, .f32⟩
  | .hbm, ⟨9, _⟩ => ⟨S16384x1x256, .f32⟩
  | .hbm, ⟨10, _⟩ => ⟨S16384x256, .f32⟩
  | .hbm, ⟨11, _⟩ => ⟨S16384x256, .f32⟩
  | .hbm, ⟨12, _⟩ => ⟨S16384x1x256, .f32⟩
  | .hbm, ⟨13, _⟩ => ⟨S100001x1x256, .f32⟩
  | .hbm, ⟨14, _⟩ => ⟨S100001x1x256, .f32⟩
  | .hbm, ⟨15, _⟩ => ⟨S100001x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S768x256, .f32⟩
  | .local _ .vmem, ⟨10, _⟩ => ⟨S768x256, .f32⟩
  | .local _ .vmem, ⟨11, _⟩ => ⟨S768, .f32⟩
  | .local _ .vmem, ⟨12, _⟩ => ⟨S768, .f32⟩
  | .local _ .vmem, ⟨13, _⟩ => ⟨S1024x256, .f32⟩
  | .local _ .vmem, ⟨14, _⟩ => ⟨S1024x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .smem, ⟨0, _⟩ => ⟨S16384, .i32⟩
  | _, _ => ⟨S100001x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem1_1 : DmaSem sig := 18

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16384], ![false]⟩

abbrev pre2 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (k2_off1_inb : ∀ i : grid2.Coords, ∀ a, (k2_off1 i) a + S1.size a ≤ S16384.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S100001x256 : Shape := ⟨2, ![100001, 256]⟩
abbrev S16384 : Shape := ⟨1, ![16384]⟩
abbrev S16384x256 : Shape := ⟨2, ![16384, 256]⟩
abbrev S256x256 : Shape := ⟨2, ![256, 256]⟩
abbrev S768x256 : Shape := ⟨2, ![768, 256]⟩
abbrev S768 : Shape := ⟨1, ![768]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S256x768 : Shape := ⟨2, ![256, 768]⟩
abbrev S16384x768 : Shape := ⟨2, ![16384, 768]⟩
abbrev S1x768 : Shape := ⟨2, ![1, 768]⟩

abbrev nBuf : Space → Nat
  | .hbm => 85
  | .vmem => 0
  | .smem => 0
  | _ => 0

abbrev bufTy : (tb : Table) → Fin (tcTables nBuf tb) → BufTy
  | .hbm, ⟨0, _⟩ => ⟨S100001x256, .f32⟩
  | .hbm, ⟨1, _⟩ => ⟨S16384, .i32⟩
  | .hbm, ⟨2, _⟩ => ⟨S16384x256, .f32⟩
  | .hbm, ⟨3, _⟩ => ⟨S256x256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S100001x256, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x256, .f32⟩
  | .hbm, ⟨28, _⟩ => ⟨S16384x256, .i1⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S256x768, .f32⟩
  | .hbm, ⟨34, _⟩ => ⟨S16384x768, .f32⟩
  | .hbm, ⟨35, _⟩ => ⟨S1x768, .f32⟩
  | .hbm, ⟨36, _⟩ => ⟨S16384x768, .f32⟩
  | .hbm, ⟨37, _⟩ => ⟨S16384x768, .f32⟩
  | .hbm, ⟨38, _⟩ => ⟨S256x768, .f32⟩
  | .hbm, ⟨39, _⟩ => ⟨S16384x768, .f32⟩
  | .hbm, ⟨40, _⟩ => ⟨S1x768, .f32⟩
  | .hbm, ⟨41, _⟩ => ⟨S16384x768, .f32⟩
  | .hbm, ⟨42, _⟩ => ⟨S16384x768, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S16384x256, .f32⟩
  | .hbm, ⟨63, _⟩ => ⟨S16384x256, .f32⟩
  | .hbm, ⟨64, _⟩ => ⟨S_, .f32⟩
  | .hbm, ⟨65, _⟩ => ⟨S16384x256, .f32⟩
  | .hbm, ⟨66, _⟩ => ⟨S16384x256, .f32⟩
  | .hbm, ⟨67, _⟩ => ⟨S16384x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S100001x256, .f32⟩
  | _, _ => ⟨S100001x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_v22 : Ref sig .tc := ⟨.hbm, 54, rfl⟩
abbrev main_cst_0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_1 : Ref sig .tc := ⟨.hbm, 61, rfl⟩
abbrev main_v28 : Ref sig .tc := ⟨.hbm, 62, rfl⟩
abbrev main_v29 : Ref sig .tc := ⟨.hbm, 63, rfl⟩
abbrev main_cst_2 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_3 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c : Ref sig .tc := ⟨.hbm, 76, rfl⟩
abbrev main_v40 : Ref sig .tc := ⟨.hbm, 77, rfl⟩
abbrev main_v41 : Ref sig .tc := ⟨.hbm, 78, rfl⟩
abbrev main_c_4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩

abbrev nD : Nat := 1
abbrev τ : Topo := Topo.v7x

variable {F : FTy → Type} [FloatOps F]
-- ==== Proof.Bodies.lean ====
/-
  The three kernel bodies, each run once over staging buffers held whole.

  Every theorem here has the same shape: the body is started holding its input blocks (read contents `X`) and
  its output block (any contents), and returns with the inputs as they were and the output reading a pure
  function of the inputs. The pure functions are the payloads the skeleton of the program names.
-/
module

public import proofs.«01_k».proof.Proof.Gen.KernelIdeal.Launch
public import proofs.«01_k».proof.Proof.Gen.KernelIdeal.Skeleton
public import Idealize.ShloMosaic.Lib.Tactic
public import Idealize.ShloMosaic.Lib.VecWindow

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the whole run: what the pipelines use, and the counters of the transfers. -/
abbrev UU : Type := UR sig nD τ × Counters

local notation "𝕄" => MT nD τ sig Unit (Elt F) ℕ UU ℕ

/-- The contents of the buffer behind a memref of a core, and that buffer held whole. -/
abbrev Cnt (c : Dev nD) {sp : Space} {S : Shape} {e : EltTy} (M : Memref sig .tc sp S e) : Type :=
  Buf (Elt F) (M.view.loc (c : Thread nD τ))

abbrev full (c : Dev nD) {sp : Space} {S : Shape} {e : EltTy} (M : Memref sig .tc sp S e) (f : Cnt (F := F) c M) : sProp 𝕄 :=
  M.view.loc (c : Thread nD τ) ↦{fullShare} f

/-- Owning a whole memref that reads `X` is holding its buffer whole at contents that read `X`. -/
theorem owns_full (c : Dev nD) {sp : Space} {S : Shape} {e : EltTy} (M : Memref sig .tc sp S e) (h : M.IsWhole)
    (X : S.Idx → Elt F e) :
    (owns (c : Thread nD τ) M fullShare X : sProp 𝕄) = iprop(∃ f : Cnt (F := F) c M, ⌜M.view.read (Elt F) f = X⌝ ∗ full c M f) := by
  unfold owns full
  rw [h.set_eq_univ]

/-! ## The gather body: a copy of one row -/

/-- The contents the body leaves in its output buffer, with the proof that it runs to its return and leaves them. -/
noncomputable def gatherRun (c : Dev nD) (i : grid0.Coords) (T : Memref sig .tc .smem S16384 .i32) (hT : T.IsWhole) (M : Memref sig .tc .vmem S1x1x256 .f32) (hM : M.IsWhole) (N : Memref sig .tc .vmem S1x1x256 .f32) (hN : N.IsWhole) (fM : Cnt (F := F) c M) :
    { W : Cnt (F := F) c N // ∀ (g : Cnt (F := F) c N) (E : Set ℕ) (Q : PUnit → sProp 𝕄),
        iprop(full c M fM ∗ full c N g ∗ (iprop(full c M fM ∗ full c N W) -∗ Q ⟨⟩))
          ⊢ wp frame (wpE (defs₀ (F := F)) Variants.none c none) E (cc0__gather_body i T hT M hM N hN) Q } := by
  refine ⟨?_, fun g E Q => ?run⟩
  case run =>
    iintro ⟨H0, H1, Hk⟩
    sl_exec!
    sl_step
    iapply Hk
    isplitl [H0]; · iexact H0
    iexact H1

/-- Those contents read back as the body's payload at the blocks read. -/
theorem gatherRun_read (c : Dev nD) (i : grid0.Coords) (T : Memref sig .tc .smem S16384 .i32) (hT : T.IsWhole) (M : Memref sig .tc .vmem S1x1x256 .f32) (hM : M.IsWhole) (N : Memref sig .tc .vmem S1x1x256 .f32) (hN : N.IsWhole) (fM : Cnt (F := F) c M) :
    N.view.read (Elt F) (gatherRun c i T hT M hM N hN fM).1 = k0_pay1 (M.view.read (Elt F) fM) := by
  unfold gatherRun
  dsimp only
  refine (View.read_writes_full _ _ _ _ _).trans ?_
  exact congrArg k0_pay1 (View.readAt_full _ _ _)

/-- The body, over read contents: the inputs stay, the output reads the payload of the inputs. -/
theorem gather_triple (c : Dev nD) (i : grid0.Coords) (T : Memref sig .tc .smem S16384 .i32) (hT : T.IsWhole) (M : Memref sig .tc .vmem S1x1x256 .f32) (hM : M.IsWhole) (N : Memref sig .tc .vmem S1x1x256 .f32) (hN : N.IsWhole) (XM : S1x1x256.Idx → Elt F .f32) (Y : S1x1x256.Idx → Elt F .f32) (E : Set ℕ)
    (Q : PUnit → sProp 𝕄) :
    iprop(owns (c : Thread nD τ) M fullShare XM ∗ owns (c : Thread nD τ) N fullShare Y
        ∗ (iprop(owns (c : Thread nD τ) M fullShare XM ∗ owns (c : Thread nD τ) N fullShare (k0_pay1 XM)) -∗ Q ⟨⟩))
      ⊢ wp frame (wpE (defs₀ (F := F)) Variants.none c none) E (cc0__gather_body i T hT M hM N hN) Q := by
  simp only [owns_full c M hM, owns_full c N hN]
  iintro ⟨⟨%f0, %e0, H0⟩, ⟨%g, -, Hg⟩, Hk⟩
  subst e0
  iapply ((gatherRun c i T hT M hM N hN f0).2 g E _)
  isplitl [H0]; · iexact H0
  isplitl [Hg]; · iexact Hg
  iintro ⟨H0, Hg⟩
  iapply Hk
  isplitl [H0]; · (iexists f0; isplitr; (· ipureintro; rfl); iexact H0)
  iexists _; isplitr; swap; (· iexact Hg)
  ipureintro
  exact gatherRun_read c i T hT M hM N hN f0

/-! ## The scatter body: a copy of one row -/

/-- The contents the body leaves in its output buffer, with the proof that it runs to its return and leaves them. -/
noncomputable def scatterRun (c : Dev nD) (i : grid2.Coords) (T : Memref sig .tc .smem S16384 .i32) (hT : T.IsWhole) (M : Memref sig .tc .vmem S1x1x256 .f32) (hM : M.IsWhole) (A : Memref sig .tc .hbm S100001x1x256 .f32) (hA : A.IsWhole) (N : Memref sig .tc .vmem S1x1x256 .f32) (hN : N.IsWhole) (fM : Cnt (F := F) c M) :
    { W : Cnt (F := F) c N // ∀ (g : Cnt (F := F) c N) (E : Set ℕ) (Q : PUnit → sProp 𝕄),
        iprop(full c M fM ∗ full c N g ∗ (iprop(full c M fM ∗ full c N W) -∗ Q ⟨⟩))
          ⊢ wp frame (wpE (defs₀ (F := F)) Variants.none c none) E (cc2__scatter_body i T hT M hM A hA N hN) Q } := by
  refine ⟨?_, fun g E Q => ?run⟩
  case run =>
    iintro ⟨H0, H1, Hk⟩
    sl_exec!
    sl_step
    iapply Hk
    isplitl [H0]; · iexact H0
    iexact H1

/-- Those contents read back as the body's payload at the blocks read. -/
theorem scatterRun_read (c : Dev nD) (i : grid2.Coords) (T : Memref sig .tc .smem S16384 .i32) (hT : T.IsWhole) (M : Memref sig .tc .vmem S1x1x256 .f32) (hM : M.IsWhole) (A : Memref sig .tc .hbm S100001x1x256 .f32) (hA : A.IsWhole) (N : Memref sig .tc .vmem S1x1x256 .f32) (hN : N.IsWhole) (fM : Cnt (F := F) c M) :
    N.view.read (Elt F) (scatterRun c i T hT M hM A hA N hN fM).1 = k2_pay1 (M.view.read (Elt F) fM) := by
  unfold scatterRun
  dsimp only
  refine (View.read_writes_full _ _ _ _ _).trans ?_
  exact congrArg k2_pay1 (View.readAt_full _ _ _)

/-- The body, over read contents: the inputs stay, the output reads the payload of the inputs. -/
theorem scatter_triple (c : Dev nD) (i : grid2.Coords) (T : Memref sig .tc .smem S16384 .i32) (hT : T.IsWhole) (M : Memref sig .tc .vmem S1x1x256 .f32) (hM : M.IsWhole) (A : Memref sig .tc .hbm S100001x1x256 .f32) (hA : A.IsWhole) (N : Memref sig .tc .vmem S1x1x256 .f32) (hN : N.IsWhole) (XM : S1x1x256.Idx → Elt F .f32) (Y : S1x1x256.Idx → Elt F .f32) (E : Set ℕ)
    (Q : PUnit → sProp 𝕄) :
    iprop(owns (c : Thread nD τ) M fullShare XM ∗ owns (c : Thread nD τ) N fullShare Y
        ∗ (iprop(owns (c : Thread nD τ) M fullShare XM ∗ owns (c : Thread nD τ) N fullShare (k2_pay1 XM)) -∗ Q ⟨⟩))
      ⊢ wp frame (wpE (defs₀ (F := F)) Variants.none c none) E (cc2__scatter_body i T hT M hM A hA N hN) Q := by
  simp only [owns_full c M hM, owns_full c N hN]
  iintro ⟨⟨%f0, %e0, H0⟩, ⟨%g, -, Hg⟩, Hk⟩
  subst e0
  iapply ((scatterRun c i T hT M hM A hA N hN f0).2 g E _)
  isplitl [H0]; · iexact H0
  isplitl [Hg]; · iexact Hg
  iintro ⟨H0, Hg⟩
  iapply Hk
  isplitl [H0]; · (iexists f0; isplitr; (· ipureintro; rfl); iexact H0)
  iexists _; isplitr; swap; (· iexact Hg)
  ipureintro
  exact scatterRun_read c i T hT M hM A hA N hN f0

/-! ## The recurrent-cell body: one block of 1024 rows -/

/-- The contents the body leaves in its output buffer, with the proof that it runs to its return and leaves them. -/
noncomputable def gruRun (c : Dev nD) (i : grid1.Coords) (M1 : Memref sig .tc .vmem S1024x256 .f32) (hM1 : M1.IsWhole) (M2 : Memref sig .tc .vmem S1024x256 .f32) (hM2 : M2.IsWhole) (M3 : Memref sig .tc .vmem S256x256 .f32) (hM3 : M3.IsWhole) (M4 : Memref sig .tc .vmem S768x256 .f32) (hM4 : M4.IsWhole) (M5 : Memref sig .tc .vmem S768x256 .f32) (hM5 : M5.IsWhole) (M6 : Memref sig .tc .vmem S768 .f32) (hM6 : M6.IsWhole) (M7 : Memref sig .tc .vmem S768 .f32) (hM7 : M7.IsWhole) (M8 : Memref sig .tc .vmem S1024x256 .f32) (hM8 : M8.IsWhole) (fM1 : Cnt (F := F) c M1) (fM2 : Cnt (F := F) c M2) (fM3 : Cnt (F := F) c M3) (fM4 : Cnt (F := F) c M4) (fM5 : Cnt (F := F) c M5) (fM6 : Cnt (F := F) c M6) (fM7 : Cnt (F := F) c M7) :
    { W : Cnt (F := F) c M8 // ∀ (g : Cnt (F := F) c M8) (E : Set ℕ) (Q : PUnit → sProp 𝕄),
        iprop(full c M1 fM1 ∗ full c M2 fM2 ∗ full c M3 fM3 ∗ full c M4 fM4 ∗ full c M5 fM5 ∗ full c M6 fM6 ∗ full c M7 fM7 ∗ full c M8 g ∗ (iprop(full c M1 fM1 ∗ full c M2 fM2 ∗ full c M3 fM3 ∗ full c M4 fM4 ∗ full c M5 fM5 ∗ full c M6 fM6 ∗ full c M7 fM7 ∗ full c M8 W) -∗ Q ⟨⟩))
          ⊢ wp frame (wpE (defs₀ (F := F)) Variants.none c none) E (cc1__gru_body i M1 hM1 M2 hM2 M3 hM3 M4 hM4 M5 hM5 M6 hM6 M7 hM7 M8 hM8) Q } := by
  refine ⟨?_, fun g E Q => ?run⟩
  case run =>
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Those contents read back as the body's payload at the blocks read. -/
theorem gruRun_read (c : Dev nD) (i : grid1.Coords) (M1 : Memref sig .tc .vmem S1024x256 .f32) (hM1 : M1.IsWhole) (M2 : Memref sig .tc .vmem S1024x256 .f32) (hM2 : M2.IsWhole) (M3 : Memref sig .tc .vmem S256x256 .f32) (hM3 : M3.IsWhole) (M4 : Memref sig .tc .vmem S768x256 .f32) (hM4 : M4.IsWhole) (M5 : Memref sig .tc .vmem S768x256 .f32) (hM5 : M5.IsWhole) (M6 : Memref sig .tc .vmem S768 .f32) (hM6 : M6.IsWhole) (M7 : Memref sig .tc .vmem S768 .f32) (hM7 : M7.IsWhole) (M8 : Memref sig .tc .vmem S1024x256 .f32) (hM8 : M8.IsWhole) (fM1 : Cnt (F := F) c M1) (fM2 : Cnt (F := F) c M2) (fM3 : Cnt (F := F) c M3) (fM4 : Cnt (F := F) c M4) (fM5 : Cnt (F := F) c M5) (fM6 : Cnt (F := F) c M6) (fM7 : Cnt (F := F) c M7) :
    M8.view.read (Elt F) (gruRun c i M1 hM1 M2 hM2 M3 hM3 M4 hM4 M5 hM5 M6 hM6 M7 hM7 M8 hM8 fM1 fM2 fM3 fM4 fM5 fM6 fM7).1 = k1_pay1 (M1.view.read (Elt F) fM1) (M2.view.read (Elt F) fM2) (M3.view.read (Elt F) fM3) (M4.view.read (Elt F) fM4) (M6.view.read (Elt F) fM6) (M5.view.read (Elt F) fM5) (M7.view.read (Elt F) fM7) := by
  unfold gruRun
  dsimp only
  refine (View.read_writes_full _ _ _ _ _).trans ?_
  exact congr (congr (congr (congr (congr (congr (congrArg k1_pay1 (View.readAt_full _ _ _)) (View.readAt_full _ _ _)) (View.readAt_full _ _ _)) (View.readAt_full _ _ _)) (View.readAt_full _ _ _)) (View.readAt_full _ _ _)) (View.readAt_full _ _ _)

/-- The body, over read contents: the inputs stay, the output reads the payload of the inputs. -/
theorem gru_triple (c : Dev nD) (i : grid1.Coords) (M1 : Memref sig .tc .vmem S1024x256 .f32) (hM1 : M1.IsWhole) (M2 : Memref sig .tc .vmem S1024x256 .f32) (hM2 : M2.IsWhole) (M3 : Memref sig .tc .vmem S256x256 .f32) (hM3 : M3.IsWhole) (M4 : Memref sig .tc .vmem S768x256 .f32) (hM4 : M4.IsWhole) (M5 : Memref sig .tc .vmem S768x256 .f32) (hM5 : M5.IsWhole) (M6 : Memref sig .tc .vmem S768 .f32) (hM6 : M6.IsWhole) (M7 : Memref sig .tc .vmem S768 .f32) (hM7 : M7.IsWhole) (M8 : Memref sig .tc .vmem S1024x256 .f32) (hM8 : M8.IsWhole) (XM1 : S1024x256.Idx → Elt F .f32) (XM2 : S1024x256.Idx → Elt F .f32) (XM3 : S256x256.Idx → Elt F .f32) (XM4 : S768x256.Idx → Elt F .f32) (XM5 : S768x256.Idx → Elt F .f32) (XM6 : S768.Idx → Elt F .f32) (XM7 : S768.Idx → Elt F .f32) (Y : S1024x256.Idx → Elt F .f32) (E : Set ℕ)
    (Q : PUnit → sProp 𝕄) :
    iprop(owns (c : Thread nD τ) M1 fullShare XM1 ∗ owns (c : Thread nD τ) M2 fullShare XM2 ∗ owns (c : Thread nD τ) M3 fullShare XM3 ∗ owns (c : Thread nD τ) M4 fullShare XM4 ∗ owns (c : Thread nD τ) M5 fullShare XM5 ∗ owns (c : Thread nD τ) M6 fullShare XM6 ∗ owns (c : Thread nD τ) M7 fullShare XM7 ∗ owns (c : Thread nD τ) M8 fullShare Y
        ∗ (iprop(owns (c : Thread nD τ) M1 fullShare XM1 ∗ owns (c : Thread nD τ) M2 fullShare XM2 ∗ owns (c : Thread nD τ) M3 fullShare XM3 ∗ owns (c : Thread nD τ) M4 fullShare XM4 ∗ owns (c : Thread nD τ) M5 fullShare XM5 ∗ owns (c : Thread nD τ) M6 fullShare XM6 ∗ owns (c : Thread nD τ) M7 fullShare XM7 ∗ owns (c : Thread nD τ) M8 fullShare (k1_pay1 XM1 XM2 XM3 XM4 XM6 XM5 XM7)) -∗ Q ⟨⟩))
      ⊢ wp frame (wpE (defs₀ (F := F)) Variants.none c none) E (cc1__gru_body i M1 hM1 M2 hM2 M3 hM3 M4 hM4 M5 hM5 M6 hM6 M7 hM7 M8 hM8) Q := by
  simp only [owns_full c M1 hM1, owns_full c M2 hM2, owns_full c M3 hM3, owns_full c M4 hM4, owns_full c M5 hM5, owns_full c M6 hM6, owns_full c M7 hM7, owns_full c M8 hM8]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%g, -, Hg⟩, Hk⟩
  subst e0 e1 e2 e3 e4 e5 e6
  iapply ((gruRun c i M1 hM1 M2 hM2 M3 hM3 M4 hM4 M5 hM5 M6 hM6 M7 hM7 M8 hM8 f0 f1 f2 f3 f4 f5 f6).2 g E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hg]; · iexact Hg
  iintro ⟨H0, H1, H2, H3, H4, H5, H6, Hg⟩
  iapply Hk
  isplitl [H0]; · (iexists f0; isplitr; (· ipureintro; rfl); iexact H0)
  isplitl [H1]; · (iexists f1; isplitr; (· ipureintro; rfl); iexact H1)
  isplitl [H2]; · (iexists f2; isplitr; (· ipureintro; rfl); iexact H2)
  isplitl [H3]; · (iexists f3; isplitr; (· ipureintro; rfl); iexact H3)
  isplitl [H4]; · (iexists f4; isplitr; (· ipureintro; rfl); iexact H4)
  isplitl [H5]; · (iexists f5; isplitr; (· ipureintro; rfl); iexact H5)
  isplitl [H6]; · (iexists f6; isplitr; (· ipureintro; rfl); iexact H6)
  iexists _; isplitr; swap; (· iexact Hg)
  ipureintro
  exact gruRun_read c i M1 hM1 M2 hM2 M3 hM3 M4 hM4 M5 hM5 M6 hM6 M7 hM7 M8 hM8 f0 f1 f2 f3 f4 f5 f6

end Cert.Proof
-- ==== Proof.Dats.lean ====
/-
  The three calls of the kernel as proof data: what each call's windows hold at entry, what the body leaves in
  the staging buffers at every grid point, and the body's obligation at every point.

  Each is stated from an arbitrary valuation `V` of the buffers a core holds when the call starts. The two calls
  that prefetch the index table take its admissible contents `a` as well: block `t` of the gathered (or
  scattered) array is the row the table names at `t`.
-/
module

public import proofs.«01_k».proof.Proof.Bodies

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- The buffers of every core, by reference. -/
abbrev Vals (F : FTy → Type) : Type := Dev nD → Valuation τ sig (Elt F)

variable (V : Vals F) (c : Dev nD)

/-! ## The gather call -/

section Gather
variable (a : (pcfg0 (F := F)).Adm)

/-- The row of the array that the table names at grid point `t`. -/
def gatherBlk (t : Fin (cfg0 a).N) : S1x1x256.Idx → Elt F .f32 :=
  ((win0 a 0).blk t).view.read (Elt F) (V c (Proc.devRef .tc (Pipeline.arrRef spec0 0)))

/-- The gather call's proof data: the row named is fetched, and its copy left in the output's staging buffer. -/
def dat0 : Dat τ (Elt F) Unit ℕ UU ℕ (cfg0 a) c where
  A w := V c (Proc.devRef .tc (Pipeline.arrRef spec0 w))
  after w t := match w with
    | ⟨0, _⟩ => gatherBlk V c a t
    | ⟨1, _⟩ => k0_pay1 (gatherBlk V c a t)
  Φ _ := iprop(iprop(Pipeline.scopedRest spec0 c ∗ (emp : sProp 𝕄)) ∗ Pipeline.prefHeld pre0 c (fun _ => fullShare) a.1)
  q _ := fullShare
  owed _ := 0

theorem dat0_after1 (t : Fin (cfg0 a).N) : (dat0 V c a).after 1 t = k0_pay1 (gatherBlk V c a t) := rfl

/-- The body finds its input block in the staging buffer, whether or not it was moved there at this point. -/
theorem before0_in (t : Fin (cfg0 a).N) (d : S1x1x256.Idx → Elt F .f32) : (dat0 V c a).before 0 t d = gatherBlk V c a t :=
  ((dat0 V c a).before_in_eq_fetched 0 rfl (fun _ => rfl) (fun _ _ _ => rfl) (fun _ => rfl) t d).trans rfl

theorem body0 : BodyObligation (dat0 V c a) (defs₀ (F := F)) Variants.none () Set.univ := fun t => by
  rw [bigSep_W0, bigSep_W0]
  rw [show (dat0 V c a).Φ t.succ = (dat0 V c a).Φ t.castSucc from rfl,
    show (dat0 V c a).owesAt () t.succ = (dat0 V c a).owesAt () t.castSucc from rfl]
  iintro ⟨HΦ, HO, ⟨%d0, H0⟩, ⟨%d1, H1⟩⟩
  rw [before0_in]
  have K := gather_triple c (grid0.coords t) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (gatherBlk V c a t) ((dat0 V c a).before 1 t d1) Set.univ
  iapply (K _)
  isplitl [H0]; · iexact H0
  isplitl [H1]; · iexact H1
  iintro ⟨H0, H1⟩
  isplitl [HΦ]; · iexact HΦ
  isplitl [HO]; · iexact HO
  isplitl [H0]; · iexact H0
  iexact H1

end Gather

/-! ## The scatter call -/

section Scatter
variable (a : (pcfg2 (F := F)).Adm)

/-- Row `t` of the new states, the block the scatter body reads at grid point `t`. -/
def scatterBlk (t : Fin (cfg2 a).N) : S1x1x256.Idx → Elt F .f32 :=
  ((win2 a 0).blk t).view.read (Elt F) (V c (Proc.devRef .tc (Pipeline.arrRef spec2 0)))

/-- The scatter call's proof data: row `t` is fetched, and its copy left in the output's staging buffer. -/
def dat2 : Dat τ (Elt F) Unit ℕ UU ℕ (cfg2 a) c where
  A w := V c (Proc.devRef .tc (Pipeline.arrRef spec2 w))
  after w t := match w with
    | ⟨0, _⟩ => scatterBlk V c a t
    | ⟨1, _⟩ => k2_pay1 (scatterBlk V c a t)
  Φ _ := iprop(iprop(Pipeline.scopedRest spec2 c ∗ (emp : sProp 𝕄)) ∗ Pipeline.prefHeld pre2 c (fun _ => fullShare) a.1)
  q _ := fullShare
  owed _ := 0

theorem dat2_after1 (t : Fin (cfg2 a).N) : (dat2 V c a).after 1 t = k2_pay1 (scatterBlk V c a t) := rfl

/-- The body finds its input block in the staging buffer, whether or not it was moved there at this point. -/
theorem before2_in (t : Fin (cfg2 a).N) (d : S1x1x256.Idx → Elt F .f32) : (dat2 V c a).before 0 t d = scatterBlk V c a t :=
  ((dat2 V c a).before_in_eq_fetched 0 rfl (fun _ => rfl) (fun _ _ _ => rfl) (fun _ => rfl) t d).trans rfl

theorem body2 : BodyObligation (dat2 V c a) (defs₀ (F := F)) Variants.none () Set.univ := fun t => by
  rw [bigSep_W2, bigSep_W2]
  rw [show (dat2 V c a).Φ t.succ = (dat2 V c a).Φ t.castSucc from rfl,
    show (dat2 V c a).owesAt () t.succ = (dat2 V c a).owesAt () t.castSucc from rfl]
  iintro ⟨HΦ, HO, ⟨%d0, H0⟩, ⟨%d1, H1⟩⟩
  rw [before2_in]
  have K := scatter_triple c (grid2.coords t) (Memref.whole main_arg1) (Memref.isWhole_whole _)
    (spec2_0.stage ((cfg2 a).slots t 0)) (hstage2_0 (((cfg2 a).slots t 0).cast nbuf2_0))
    (Memref.whole main_v5) (Memref.isWhole_whole _)
    (spec2_1.stage ((cfg2 a).slots t 1)) (hstage2_1 (((cfg2 a).slots t 1).cast nbuf2_1))
    (scatterBlk V c a t) ((dat2 V c a).before 1 t d1) Set.univ
  iapply (K _)
  isplitl [H0]; · iexact H0
  isplitl [H1]; · iexact H1
  iintro ⟨H0, H1⟩
  isplitl [HΦ]; · iexact HΦ
  isplitl [HO]; · iexact HO
  isplitl [H0]; · iexact H0
  iexact H1

end Scatter

/-! ## The recurrent-cell call -/

section Cell

/-- The block of window 0 at grid point `t`. -/
def cellBlk0 (t : Fin cfg1.N) : S1024x256.Idx → Elt F .f32 :=
  ((win1 0).blk t).view.read (Elt F) (V c (Proc.devRef .tc (Pipeline.arrRef spec1 0)))

/-- The block of window 1 at grid point `t`. -/
def cellBlk1 (t : Fin cfg1.N) : S1024x256.Idx → Elt F .f32 :=
  ((win1 1).blk t).view.read (Elt F) (V c (Proc.devRef .tc (Pipeline.arrRef spec1 1)))

/-- The block of window 2 at grid point `t`. -/
def cellBlk2 (t : Fin cfg1.N) : S256x256.Idx → Elt F .f32 :=
  ((win1 2).blk t).view.read (Elt F) (V c (Proc.devRef .tc (Pipeline.arrRef spec1 2)))

/-- The block of window 3 at grid point `t`. -/
def cellBlk3 (t : Fin cfg1.N) : S768x256.Idx → Elt F .f32 :=
  ((win1 3).blk t).view.read (Elt F) (V c (Proc.devRef .tc (Pipeline.arrRef spec1 3)))

/-- The block of window 4 at grid point `t`. -/
def cellBlk4 (t : Fin cfg1.N) : S768x256.Idx → Elt F .f32 :=
  ((win1 4).blk t).view.read (Elt F) (V c (Proc.devRef .tc (Pipeline.arrRef spec1 4)))

/-- The block of window 5 at grid point `t`. -/
def cellBlk5 (t : Fin cfg1.N) : S768.Idx → Elt F .f32 :=
  ((win1 5).blk t).view.read (Elt F) (V c (Proc.devRef .tc (Pipeline.arrRef spec1 5)))

/-- The block of window 6 at grid point `t`. -/
def cellBlk6 (t : Fin cfg1.N) : S768.Idx → Elt F .f32 :=
  ((win1 6).blk t).view.read (Elt F) (V c (Proc.devRef .tc (Pipeline.arrRef spec1 6)))

/-- The new states of the 1024 rows of grid point `t`: the body's payload at the point's blocks. -/
def cellNew (t : Fin cfg1.N) : S1024x256.Idx → Elt F .f32 :=
  k1_pay1 (cellBlk0 V c t) (cellBlk1 V c t) (cellBlk2 V c t) (cellBlk3 V c t) (cellBlk5 V c t) (cellBlk4 V c t) (cellBlk6 V c t)

/-- The cell call's proof data: every input's block stays, the output's is the new states. -/
def dat1 : Dat τ (Elt F) Unit ℕ UU ℕ cfg1 c where
  A w := V c (Proc.devRef .tc (Pipeline.arrRef spec1 w))
  after w t := match w with
    | ⟨0, _⟩ => cellBlk0 V c t
    | ⟨1, _⟩ => cellBlk1 V c t
    | ⟨2, _⟩ => cellBlk2 V c t
    | ⟨3, _⟩ => cellBlk3 V c t
    | ⟨4, _⟩ => cellBlk4 V c t
    | ⟨5, _⟩ => cellBlk5 V c t
    | ⟨6, _⟩ => cellBlk6 V c t
    | ⟨7, _⟩ => cellNew V c t
  Φ _ := iprop(Pipeline.scopedRest spec1 c ∗ (emp : sProp 𝕄))
  q _ := fullShare
  owed _ := 0

theorem before1_0 (t : Fin cfg1.N) (d : S1024x256.Idx → Elt F .f32) : (dat1 V c).before 0 t d = cellBlk0 V c t :=
  ((dat1 V c).before_in_eq_fetched 0 rfl (fun _ => rfl) (fun _ _ _ => rfl) (fun _ => rfl) t d).trans rfl

theorem before1_1 (t : Fin cfg1.N) (d : S1024x256.Idx → Elt F .f32) : (dat1 V c).before 1 t d = cellBlk1 V c t :=
  ((dat1 V c).before_in_eq_fetched 1 rfl (fun _ => rfl) (fun _ _ _ => rfl) (fun _ => rfl) t d).trans rfl

theorem before1_2 (t : Fin cfg1.N) (d : S256x256.Idx → Elt F .f32) : (dat1 V c).before 2 t d = cellBlk2 V c t :=
  ((dat1 V c).before_in_eq_fetched 2 rfl (fun _ => rfl) (fun _ _ _ => rfl) (fun _ => rfl) t d).trans rfl

theorem before1_3 (t : Fin cfg1.N) (d : S768x256.Idx → Elt F .f32) : (dat1 V c).before 3 t d = cellBlk3 V c t :=
  ((dat1 V c).before_in_eq_fetched 3 rfl (fun _ => rfl) (fun _ _ _ => rfl) (fun _ => rfl) t d).trans rfl

theorem before1_4 (t : Fin cfg1.N) (d : S768x256.Idx → Elt F .f32) : (dat1 V c).before 4 t d = cellBlk4 V c t :=
  ((dat1 V c).before_in_eq_fetched 4 rfl (fun _ => rfl) (fun _ _ _ => rfl) (fun _ => rfl) t d).trans rfl

theorem before1_5 (t : Fin cfg1.N) (d : S768.Idx → Elt F .f32) : (dat1 V c).before 5 t d = cellBlk5 V c t :=
  ((dat1 V c).before_in_eq_fetched 5 rfl (fun _ => rfl) (fun _ _ _ => rfl) (fun _ => rfl) t d).trans rfl

theorem before1_6 (t : Fin cfg1.N) (d : S768.Idx → Elt F .f32) : (dat1 V c).before 6 t d = cellBlk6 V c t :=
  ((dat1 V c).before_in_eq_fetched 6 rfl (fun _ => rfl) (fun _ _ _ => rfl) (fun _ => rfl) t d).trans rfl

theorem body1 : BodyObligation (dat1 V c) (defs₀ (F := F)) Variants.none () Set.univ := fun t => by
  rw [bigSep_W1, bigSep_W1]
  rw [show (dat1 V c).Φ t.succ = (dat1 V c).Φ t.castSucc from rfl,
    show (dat1 V c).owesAt () t.succ = (dat1 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4, before1_5, before1_6]
  have K := gru_triple c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (cellBlk0 V c t) (cellBlk1 V c t) (cellBlk2 V c t) (cellBlk3 V c t) (cellBlk4 V c t) (cellBlk5 V c t) (cellBlk6 V c t) ((dat1 V c).before 7 t d7) Set.univ
  iapply (K _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cell

end Cert.Proof
-- ==== Proof.Tables.lean ====
/-
  The prefetched index table: what the precondition says of it, the blocks it names, and that both calls which
  prefetch it are handed contents their index maps accept.
-/
module

public import proofs.«01_k».proof.Proof.Gen.KernelIdeal.Launch
public import proofs.«01_k».proof.Proof.Gen.Pre_in_range
public import Idealize.ShloMosaic.Lib.ReduceAll
public import Idealize.ShloMosaic.Lib.WordCmp
public import Idealize.ShloMosaic.Lib.StableHlo.Predicate
public import Idealize.ShloMosaic.Lib.ValueIdx

@[expose] public section

noncomputable section

namespace Cert.Proof

open Cert.KernelIdeal Cert.KernelIdeal.Gen
open Idealize.ShloMosaic Idealize.ShloMosaic.TcCoe
open ValueIdx (ix1)

variable {F : FTy → Type} [FloatOps F]

/-- Every word of the table names a row below 100000. -/
def Small (x : S16384.Idx → BitVec 32) : Prop := ∀ i, (x i).toNat < 100000

/-- The printed precondition says it: `jnp.all` of the two signed comparisons. -/
theorem small_of_pre (x0 : FVec F S100001x256 .f32) (x : IVec S16384 32) (x2 : FVec F S16384x256 .f32) (x3 : FVec F S256x256 .f32)
    (x4 x5 : FVec F S768x256 .f32) (x6 x7 : FVec F S768 .f32) (x8 : FVec F S100001x256 .f32)
    (h : letI := Cert.Pre_in_range.Gen.facts; Cert.Pre_in_range.fn (F := F) x0 x x2 x3 x4 x5 x6 x7 x8 = fun _ => 1#1) : Small x := by
  intro i
  have e := congrFun h (fun a => a.elim0)
  have e' := Host.reduce_andi_all (t := Cert.Pre_in_range.S_) _ _ _ _ _ e i
  have e'' : IntOp.andi (IntOp.cmpi .sge (x i) 0#32) (IntOp.cmpi .slt (x i) (BitVec.ofNat 32 100000)) = 1#1 := e'
  rw [WordCmp.andi_sge_zero_slt_ofNat (by norm_num)] at e''
  simpa [StableHlo.Predicate.ofBool_eq_one_iff] using e''

/-- The one table as the contents of a call's prefetched tables. -/
def tbl0 (x : S16384.Idx → BitVec 32) : pre0.Contents (Elt F) := fun
  | 0 => x
  | ⟨_ + 1, h⟩ => absurd h (Nat.not_lt.2 (Nat.le_add_left _ _))

def tbl2 (x : S16384.Idx → BitVec 32) : pre2.Contents (Elt F) := fun
  | 0 => x
  | ⟨_ + 1, h⟩ => absurd h (Nat.not_lt.2 (Nat.le_add_left _ _))

/-- The one element of the unit box at word `n` of the table. -/
theorem unit_first (n : Nat) (hn : n < 16384) (h : ∀ a, (![(BitVec.ofNat 32 n).toNat] : Fin 1 → ℕ) a + S1.size a ≤ S16384.size a)
    (h0 : 0 < (Rect.unit (s := S16384) ![(BitVec.ofNat 32 n).toNat] S1.size h).shape.numel) :
    (Rect.unit (s := S16384) ![(BitVec.ofNat 32 n).toNat] S1.size h).emb (Shape.Idx.first h0) = ix1 ⟨n, hn⟩ := by
  funext a
  refine Fin.ext ?_
  match a with
  | ⟨0, _⟩ =>
    have hf : (Shape.Idx.first h0 (0 : Fin 1)).val < 1 := (Shape.Idx.first h0 (0 : Fin 1)).isLt
    show (BitVec.ofNat 32 n).toNat + 1 * (Shape.Idx.first h0 (0 : Fin 1)).val = n
    have hn' : (BitVec.ofNat 32 n).toNat = n := by rw [BitVec.toNat_ofNat]; exact Nat.mod_eq_of_lt (by omega)
    omega

/-- The gather call's input block at a grid point is the row the table names there; the scatter call's output
    block too. -/
theorem gather_row (x : S16384.Idx → BitVec 32) (i : grid0.Coords) :
    cc0_transform_0 (F := F) k0_off1_inb numel1_S1 (tbl0 x) i = ![(x (ix1 (i 0))).toNat, 0, 0] := by
  unfold cc0_transform_0
  dsimp only
  congr 2
  exact congrArg x (unit_first (i 0).val (i 0).isLt _ _)

theorem scatter_row (x : S16384.Idx → BitVec 32) (i : grid2.Coords) :
    cc2_transform_2 (F := F) k2_off1_inb numel1_S1 (tbl2 x) i = ![(x (ix1 (i 0))).toNat, 0, 0] := by
  unfold cc2_transform_2
  dsimp only
  congr 2
  exact congrArg x (unit_first (i 0).val (i 0).isLt _ _)

theorem row_inb (r : ℕ) (hr : r < 100000) (a : Fin 3) : ((![r, 0, 0] : Fin 3 → ℕ) a + 1) * S1x1x256.size a ≤ S100001x1x256.size a := by
  match a with
  | ⟨0, _⟩ => show (r + 1) * 1 ≤ 100001; omega
  | ⟨1, _⟩ => show (0 + 1) * 1 ≤ 1; omega
  | ⟨2, _⟩ => show (0 + 1) * 256 ≤ 256; omega

theorem ok0_of_small (x : S16384.Idx → BitVec 32) (h : Small x) : ok0 (F := F) (tbl0 x) := fun i =>
  ⟨fun a => by rw [gather_row]; exact row_inb _ (h _) a, Or.inl rfl⟩

theorem ok2_of_small (x : S16384.Idx → BitVec 32) (h : Small x) : ok2 (F := F) (tbl2 x) := fun i =>
  ⟨fun a => by rw [scatter_row]; exact row_inb _ (h _) a, Or.inl rfl⟩

/-- The contents the two calls are pinned at. -/
def adm0 (x : S16384.Idx → BitVec 32) (h : Small x) : (pcfg0 (F := F)).Adm := ⟨tbl0 x, ok0_of_small x h⟩
def adm2 (x : S16384.Idx → BitVec 32) (h : Small x) : (pcfg2 (F := F)).Adm := ⟨tbl2 x, ok2_of_small x h⟩

end Cert.Proof
-- ==== Proof.Run.lean ====
/-
  The run of the whole kernel: three calls between four host stretches, from any memory whose index table names
  rows in range, to a final memory that is written down.

  Between two items a core holds every buffer of the program whole at a valuation. `W1` to `W7` are those
  valuations: a host stretch applies its operations, a call writes back its output array. The run theorem says the
  final memory is `W7`, and that every semaphore counter is at zero.
-/
module

public import proofs.«01_k».proof.Proof.Dats
public import proofs.«01_k».proof.Proof.Tables
public import proofs.«01_k».proof.Proof.Gen.KernelIdeal.Regions
public import Idealize.ShloMosaic.Lib.Pipeline.RegionArraysS
public import Idealize.ShloMosaic.Lib.Pipeline.RegionArraysTS

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg afterRegion ucRefs)

variable {F : FTy → Type} [FloatOps F]

local notation "𝕄" => MT nD τ sig Unit (Elt F) ℕ UU ℕ

variable (m : (ℓ : Loc nD τ sig) → Buf (Elt F) ℓ)

/-- The index table at launch. -/
def table : S16384.Idx → BitVec 32 := m (((0 : Dev nD).tc : Thread nD τ).loc main_arg1)

variable (hs : Small (table m))

/-! ## The buffers between two items -/

def W1 : Vals F := fun c => StableHlo.after hostOps0 (V0 m c)
def W2 : Vals F := fun c => afterRegion (dat0 (W1 m) c (adm0 (table m) hs)) (W1 m c)
def W3 : Vals F := fun c => StableHlo.after hostOps1 (W2 m hs c)
def W4 : Vals F := fun c => afterRegion (dat1 (W3 m hs) c) (W3 m hs c)
def W5 : Vals F := fun c => StableHlo.after hostOps2 (W4 m hs c)
def W6 : Vals F := fun c => afterRegion (dat2 (W5 m hs) c (adm2 (table m) hs)) (W5 m hs c)
def W7 : Vals F := fun c => StableHlo.after hostOps3 (W6 m hs c)

theorem W1_of (c : Dev nD) (r : Ref sig .tc) (h : r ∉ hostOps0_W) : W1 m c r = V0 m c r :=
  StableHlo.after_of_writes_sub hostOps0 _ hostOps0_writes h
theorem W2_of (c : Dev nD) (r : Ref sig .tc) (h : r ≠ main_v1) : W2 m hs c r = W1 m c r :=
  Pipeline.afterRegion_keeps _ _ (launch0 (F := F)).win.arr_inj (fun _ => rfl) r fun w e => by
    match w with
    | ⟨0, _⟩ => rfl
    | ⟨1, _⟩ => exact absurd e.symm h
theorem W3_of (c : Dev nD) (r : Ref sig .tc) (h : r ∉ hostOps1_W) : W3 m hs c r = W2 m hs c r :=
  StableHlo.after_of_writes_sub hostOps1 _ hostOps1_writes h
theorem W4_of (c : Dev nD) (r : Ref sig .tc) (h : r ≠ main_v3) : W4 m hs c r = W3 m hs c r :=
  Pipeline.afterRegion_keeps _ _ (launch1 (F := F)).win.arr_inj (fun _ => rfl) r fun w e => by
    match w with
    | ⟨0, _⟩ | ⟨1, _⟩ | ⟨2, _⟩ | ⟨3, _⟩ | ⟨4, _⟩ | ⟨5, _⟩ | ⟨6, _⟩ => rfl
    | ⟨7, _⟩ => exact absurd e.symm h
theorem W5_of (c : Dev nD) (r : Ref sig .tc) (h : r ∉ hostOps2_W) : W5 m hs c r = W4 m hs c r :=
  StableHlo.after_of_writes_sub hostOps2 _ hostOps2_writes h
theorem W6_of (c : Dev nD) (r : Ref sig .tc) (h : r ≠ main_v6) : W6 m hs c r = W5 m hs c r :=
  Pipeline.afterRegion_keeps _ _ (launch2 (F := F)).win.arr_inj (fun _ => rfl) r fun w e => by
    match w with
    | ⟨0, _⟩ => rfl
    | ⟨1, _⟩ => exact absurd e.symm h
theorem W7_of (c : Dev nD) (r : Ref sig .tc) (h : r ∉ hostOps3_W) : W7 m hs c r = W6 m hs c r :=
  StableHlo.after_of_writes_sub hostOps3 _ hostOps3_writes h

/-- A buffer no item writes. -/
abbrev Kept (r : Ref sig .tc) : Prop :=
  r ∉ hostOps0_W ∧ r ≠ main_v1 ∧ r ∉ hostOps1_W ∧ r ≠ main_v3 ∧ r ∉ hostOps2_W ∧ r ≠ main_v6 ∧ r ∉ hostOps3_W

/-- What no item writes is, in the end, what it was at launch; -/
theorem W7_kept (c : Dev nD) (r : Ref sig .tc) (h : Kept r) : W7 m hs c r = V0 m c r :=
  (W7_of m hs c r h.2.2.2.2.2.2).trans <| (W6_of m hs c r h.2.2.2.2.2.1).trans <| (W5_of m hs c r h.2.2.2.2.1).trans <|
    (W4_of m hs c r h.2.2.2.1).trans <| (W3_of m hs c r h.2.2.1).trans <| (W2_of m hs c r h.2.1).trans (W1_of m c r h.1)
/-- and is so when the cell and the scatter are called. -/
theorem W3_kept (c : Dev nD) (r : Ref sig .tc) (h : Kept r) : W3 m hs c r = V0 m c r :=
  (W3_of m hs c r h.2.2.1).trans <| (W2_of m hs c r h.2.1).trans (W1_of m c r h.1)
theorem W4_kept (c : Dev nD) (r : Ref sig .tc) (h : Kept r) : W4 m hs c r = V0 m c r :=
  (W4_of m hs c r h.2.2.2.1).trans (W3_kept m hs c r h)
theorem W5_kept (c : Dev nD) (r : Ref sig .tc) (h : Kept r) : W5 m hs c r = V0 m c r :=
  (W5_of m hs c r h.2.2.2.2.1).trans (W4_kept m hs c r h)

/-! ## The calls as segments -/

/-- The tables every call is pinned at: the second prefetches none. -/
def adm : (p : Fin 3) → (pcfgs (F := F) p).Adm
  | ⟨0, _⟩ => adm0 (table m) hs
  | ⟨1, _⟩ => ⟨Pipeline.Prefetch.Contents.none, trivial⟩
  | ⟨2, _⟩ => adm2 (table m) hs

/-- Every call's proof data, at the valuation it is entered from. -/
def dats : (p : Fin 3) → (c : Dev nD) → Dat τ (Elt F) Unit ℕ UU ℕ (Pipeline.pin (pcfgs (F := F)) (adm m hs) p) c
  | ⟨0, _⟩ => fun c => dat0 (W1 m) c (adm0 (table m) hs)
  | ⟨1, _⟩ => fun c => dat1 (W3 m hs) c
  | ⟨2, _⟩ => fun c => dat2 (W5 m hs) c (adm2 (table m) hs)

abbrev lvls : GSem nD τ sig → Finset Unit := fun g => if g.1.2 = .tc then {()} else ∅
abbrev lv0 : GSem nD τ sig → Unit → ℕ := fun _ _ => 0

/-- What rides beside the buffers between two items: the core owes nothing. -/
abbrev Rest (c : Dev nD) : sProp 𝕄 :=
  iprop((∃ W, owes (c : Thread nD τ) (0 : CellTallies nD τ sig Unit) W) ∗ emp ∗ emp)

theorem cut (p : Fin 3) : Pipeline.LevelCut (pcfgs (F := F)) (adm m hs) () lvls lv0 p (fun _ => 0) (fun _ => 0) where
  hι _ _ _ := by simp [lvls]
  hιb _ _ _ := le_rfl
  hD _ _ _ h := absurd h (lt_irrefl 0)

/-- A call's invariant is what the segment is entered with, at its first step and at its last. -/
theorem in0 (c : Dev nD) : iprop(iprop(Pipeline.scopedRest (Pipeline.pin (pcfgs (F := F)) (adm m hs) 0).spec c ∗ emp) ∗
    Pipeline.tablesAt (pcfgs (F := F)) (adm m hs) 0 c) = ((dats m hs 0 c).Φ 0 : sProp 𝕄) := rfl
theorem out0 (c : Dev nD) : ((dats m hs 0 c).Φ (Fin.last (Pipeline.pin (pcfgs (F := F)) (adm m hs) 0).N) : sProp 𝕄) =
    (dats m hs 0 c).Φ 0 := rfl
theorem in1 (c : Dev nD) : iprop(Pipeline.scopedRest (Pipeline.pin (pcfgs (F := F)) (adm m hs) 1).spec c ∗ emp) =
    ((dats m hs 1 c).Φ 0 : sProp 𝕄) := rfl
theorem out1 (c : Dev nD) : ((dats m hs 1 c).Φ (Fin.last (Pipeline.pin (pcfgs (F := F)) (adm m hs) 1).N) : sProp 𝕄) =
    (dats m hs 1 c).Φ 0 := rfl
theorem in2 (c : Dev nD) : iprop(iprop(Pipeline.scopedRest (Pipeline.pin (pcfgs (F := F)) (adm m hs) 2).spec c ∗ emp) ∗
    Pipeline.tablesAt (pcfgs (F := F)) (adm m hs) 2 c) = ((dats m hs 2 c).Φ 0 : sProp 𝕄) := rfl
theorem out2 (c : Dev nD) : ((dats m hs 2 c).Φ (Fin.last (Pipeline.pin (pcfgs (F := F)) (adm m hs) 2).N) : sProp 𝕄) =
    (dats m hs 2 c).Φ 0 := rfl

/-- Equal assertions entail each other. -/
theorem ent {P Q : sProp 𝕄} (h : P = Q) : P ⊢ Q := h ▸ .rfl

theorem loose0 (c : Dev nD) : Pipeline.BodyObligationLoose (dats m hs 0 c) defs₀ Variants.none () Set.univ :=
  (body0 (W1 m) c (adm0 (table m) hs)).loose
theorem loose1 (c : Dev nD) : Pipeline.BodyObligationLoose (dats m hs 1 c) defs₀ Variants.none () Set.univ :=
  (body1 (W3 m hs) c).loose
theorem loose2 (c : Dev nD) : Pipeline.BodyObligationLoose (dats m hs 2 c) defs₀ Variants.none () Set.univ :=
  (body2 (W5 m hs) c (adm2 (table m) hs)).loose

/-- The tables are the index argument, as it stands when the call is reached. -/
theorem tbls0 (c : Dev nD) (k) : (adm m hs 0).1 k = W1 m c (Proc.devRef .tc ((pcfgs (F := F) 0).pre.ref k)) := by
  obtain rfl : c = 0 := Subsingleton.elim _ _
  match k with
  | ⟨0, _⟩ => exact (W1_of m 0 main_arg1 (by decide)).symm
theorem tbls2 (c : Dev nD) (k) : (adm m hs 2).1 k = W5 m hs c (Proc.devRef .tc ((pcfgs (F := F) 2).pre.ref k)) := by
  obtain rfl : c = 0 := Subsingleton.elim _ _
  match k with
  | ⟨0, _⟩ => exact (W5_kept m hs 0 main_arg1 (by decide)).symm

def reg0 : RegionSeg (pcfgs (F := F)) (adm m hs) (dats m hs) () defs₀ Variants.none lvls lv0 0 :=
  RegionSeg.ofHeldInT (pcfgs (F := F)) (adm m hs) (dats m hs) () defs₀ Variants.none lvls lv0 0 (fun _ => 0) (ucRefs τ sig)
    (fun _ => iprop(emp)) (fun _ => iprop(emp)) launch0 (loose0 m hs) (fun _ _ => rfl) (fun _ => rfl)
    (fun c => (dats m hs 0 c).share_full fun _ => rfl) (fun c => ent (in0 m hs c)) (fun c => ent ((out0 m hs c).trans (in0 m hs c).symm))
    (fun _ => 0) (cut m hs 0) (fun _ => iprop(emp)) (W1 m) (fun _ _ => rfl) (tbls0 m hs)

def reg1 : RegionSeg (pcfgs (F := F)) (adm m hs) (dats m hs) () defs₀ Variants.none lvls lv0 1 :=
  RegionSeg.ofHeldIn (pcfgs (F := F)) (adm m hs) (dats m hs) () defs₀ Variants.none lvls lv0 1 (fun _ => 0) (ucRefs τ sig)
    (fun _ => iprop(emp)) (fun _ => iprop(emp)) launch1 rfl (loose1 m hs) (fun _ _ => rfl) (fun _ => rfl)
    (fun c => (dats m hs 1 c).share_full fun _ => rfl) (fun c => ent (in1 m hs c)) (fun c => ent ((out1 m hs c).trans (in1 m hs c).symm))
    (fun _ => 0) (cut m hs 1) (fun _ => iprop(emp)) (W3 m hs) (fun _ _ => rfl)

def reg2 : RegionSeg (pcfgs (F := F)) (adm m hs) (dats m hs) () defs₀ Variants.none lvls lv0 2 :=
  RegionSeg.ofHeldInT (pcfgs (F := F)) (adm m hs) (dats m hs) () defs₀ Variants.none lvls lv0 2 (fun _ => 0) (ucRefs τ sig)
    (fun _ => iprop(emp)) (fun _ => iprop(emp)) launch2 (loose2 m hs) (fun _ _ => rfl) (fun _ => rfl)
    (fun c => (dats m hs 2 c).share_full fun _ => rfl) (fun c => ent (in2 m hs c)) (fun c => ent ((out2 m hs c).trans (in2 m hs c).symm))
    (fun _ => 0) (cut m hs 2) (fun _ => iprop(emp)) (W5 m hs) (fun _ _ => rfl) (tbls2 m hs)

/-! ## The chain and the run -/

/-- A stretch of host operations, entered at `V`. -/
abbrev stretch (ops : List (HloOp τ sig (Elt F))) (hsub : ops.Forall fun op => op.bufs ⊆ StableHlo.tcRefs τ sig)
    (hfresh : ops.Forall fun op => op.fresh = ∅) (V : Vals F) :
    HostSeg (Name := ℕ) (U := UU) (pcfgs (F := F)) defs₀ Variants.none lvls lv0 :=
  HostSeg.ofOps _ _ _ _ _ (ucRefs τ sig) ops
    (fun op h => Pipeline.sub_ucRefs op ((List.forall_iff_forall_mem.mp hsub) op h))
    (fun op h => (List.forall_iff_forall_mem.mp hfresh) op h) V Rest

/-- The program's items in order. -/
def items (_ : Dev nD) : List (Seg (pcfgs (F := F)) (adm m hs) (dats m hs) () defs₀ Variants.none lvls lv0) :=
  [ .host (stretch hostOps0 hostOps0_sub hostOps0_fresh (V0 m)),
    .region (reg0 m hs),
    .host (stretch hostOps1 hostOps1_sub hostOps1_fresh (W2 m hs)),
    .region (reg1 m hs),
    .host (stretch hostOps2 hostOps2_sub hostOps2_fresh (W4 m hs)),
    .region (reg2 m hs),
    .host (stretch hostOps3 hostOps3_sub hostOps3_fresh (W6 m hs)) ]

/-- A core between two items: every buffer of the program held whole at a valuation, and nothing owed. -/
abbrev At (V : Vals F) (c : Dev nD) : sProp 𝕄 := iprop(StableHlo.held (c : Thread nD τ) (ucRefs τ sig) (V c) ∗ Rest c)

theorem arrs : (p : Fin 3) → Pipeline.arrRefs (τ := τ) (pcfgs (F := F) p).spec ⊆ ucRefs τ sig
  | 0 => Pipeline.arrRefs_sub_ucRefs spec0 (by decide)
  | 1 => Pipeline.arrRefs_sub_ucRefs spec1 (by decide)
  | 2 => Pipeline.arrRefs_sub_ucRefs spec2 (by decide)
theorem tbls : (p : Fin 3) → Pipeline.tblRefs (τ := τ) (pcfgs (F := F) p).pre ⊆ ucRefs τ sig
  | 0 => Pipeline.tblRefs_sub_ucRefs pre0 (by decide)
  | 1 => Pipeline.tblRefs_sub_ucRefs .none (fun k => k.elim0)
  | 2 => Pipeline.tblRefs_sub_ucRefs pre2 (by decide)

theorem enter0 (c : Dev nD) : At (W1 m) c ⊢ (reg0 m hs).pre c := by
  unfold reg0
  exact RegionSeg.ofHeldInT_pre (pcs := pcfgs (F := F)) (a := adm m hs) (pdats := dats m hs) (p := 0) (D := fun _ => 0) (S := ucRefs τ sig)
    (X := fun _ => iprop(emp)) (R := fun _ => iprop(emp)) (W := W1 m) (arrs 0) (tbls 0) c
theorem leave0 (c : Dev nD) : (reg0 m hs).post c ⊢ At (W2 m hs) c := by
  unfold reg0 W2
  exact RegionSeg.ofHeldInT_post (arrs 0) (tbls 0) c

theorem enter1 (c : Dev nD) : At (W3 m hs) c ⊢ (reg1 m hs).pre c := by
  unfold reg1
  exact RegionSeg.ofHeldIn_pre (pcs := pcfgs (F := F)) (a := adm m hs) (pdats := dats m hs) (p := 1) (D := fun _ => 0) (S := ucRefs τ sig)
    (X := fun _ => iprop(emp)) (R := fun _ => iprop(emp)) (W := W3 m hs) (arrs 1) c
theorem leave1 (c : Dev nD) : (reg1 m hs).post c ⊢ At (W4 m hs) c := by
  unfold reg1 W4
  exact RegionSeg.ofHeldIn_post (arrs 1) c

theorem enter2 (c : Dev nD) : At (W5 m hs) c ⊢ (reg2 m hs).pre c := by
  unfold reg2
  exact RegionSeg.ofHeldInT_pre (pcs := pcfgs (F := F)) (a := adm m hs) (pdats := dats m hs) (p := 2) (D := fun _ => 0) (S := ucRefs τ sig)
    (X := fun _ => iprop(emp)) (R := fun _ => iprop(emp)) (W := W5 m hs) (arrs 2) (tbls 2) c
theorem leave2 (c : Dev nD) : (reg2 m hs).post c ⊢ At (W6 m hs) c := by
  unfold reg2 W6
  exact RegionSeg.ofHeldInT_post (arrs 2) (tbls 2) c

/-- Where the calls' ghost state lives. -/
abbrev EP : Emb (URounds (GSem nD τ sig) Unit) 𝕄 := embL

/-- The ghost state at launch: each call's, and a counter element that plays no part. -/
def ghost0 : UU := (initOf (Pipeline.cells (Pipeline.pin (pcfgs (F := F)) (adm m hs)) (cellOf_inj (adm m hs)))
  (Pipeline.launchToks (Pipeline.pin (pcfgs (F := F)) (adm m hs)) (cellOf_inj (adm m hs))), 1)

set_option backward.isDefEq.respectTransparency.types false in
/-- The run, at any float values: if the index table names rows in range, every run ends, every buffer of the
    program holds `W7`, and every semaphore counter is at zero. -/
theorem run_full (ρ : Dev nD → PrngReg) : θ_run defs (onTc (τ := τ) (main (F := F))) ⟨m, fun _ => 0, ρ⟩ (fun r =>
    (∀ c : Dev nD, ∀ b ∈ ucRefs τ sig, r.2.mem ((c : Thread nD τ).1, b) = W7 m hs c b) ∧ r.2.sem = fun _ => 0) := by
  refine Pipeline.θ_run_regions_kit_dev_sems (pcfgs (F := F)) (adm m hs) (dats m hs) () (cellOf_inj (adm m hs)) EP defs₀
    Variants.none lvls lv0 m ρ main (items m hs)
    (fun c Q => by
      rewrite [main_chain c, Seg.run_eq_chain, show (items m hs c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide)
    (O₀ := 0) (hL := fun g hg => if_neg hg) (G := fun _ => BI.emp) (u₀ := ghost0 m hs) (hu₀ := ?_)
    (T₀ := At (V0 m)) (Tₙ := fun c => StableHlo.held (c : Thread nD τ) (ucRefs τ sig) (W7 m hs c))
    (hch := fun c => ⟨.rfl, enter0 m hs c, leave0 m hs c, enter1 m hs c, leave1 m hs c, enter2 m hs c, leave2 m hs c,
      sep_mono .rfl (show Rest c ⊢ _ from by iintro ⟨HO, -⟩; iexact HO)⟩)
    (hinit := ?_) (QY := fun c s => ∀ b ∈ ucRefs τ sig, s.mem ((c : Thread nD τ).1, b) = W7 m hs c b)
    (hfin := fun c s' => ?_) (hQ := fun _ h hz => ⟨h, funext fun g => hz g (.inr (regions_no_unscoped g.2))⟩)
  · unfold ghost0
    iintro Hu
    ihave H := (ownU_pair _ _) $$ Hu
    icases H with ⟨HP, -⟩
    imodintro
    isplitl [HP]; · iexact HP
    iapply (show (BI.emp : sProp 𝕄) ⊢ bigSep Finset.univ (fun _ : Dev nD => BI.emp) from by rw [BI.bigSep_emp_const])
    iempintro
  · refine Pipeline.initEach lvls lv0 fun c => ?_
    rw [show unscopedBufs c (fun b => m ((c : Thread nD τ).loc b)) = StableHlo.held (c : Thread nD τ) (ucRefs τ sig) (V0 m c)
      from Pipeline.unscopedBufs_held (Ix := Unit) (Name := ℕ) (U := UU) (Lvl := ℕ) c (V0 m c)]
    iintro ⟨⟨Hh, -, HO, -, -, -⟩, -⟩
    imodintro
    isplitl [Hh]; · iexact Hh
    isplitl [HO]; · iexists ∅; iexact HO
    isplitl []; · iempintro
    iempintro
  · unfold StableHlo.held
    iintro ⟨Hh, HSI⟩
    ihave Hr := (pointsTo_read_all (ucRefs τ sig) (fun b => ((c : Thread nD τ).1, b)) (W7 m hs c) s') $$ [Hh HSI]
    · isplitl [Hh] <;> iassumption
    icases Hr with ⟨%h, HSI⟩
    imodintro
    isplitr
    · ipureintro
      exact h
    · iexact HSI

/-- The post of the frame claims, and the result's value beside it. -/
theorem run_main (ρ : Dev nD → PrngReg) : θ_run defs (onTc (τ := τ) (main (F := F))) ⟨m, fun _ => 0, ρ⟩ (fun r =>
    (∀ c : Dev nD, ∀ r' : Ref sig .tc, r'.isScoped = false → r.2.mem ((c : Thread nD τ).loc r') = W7 m hs c r')
      ∧ r.2.sem = fun _ => 0) :=
  (θ_run defs _ _).mono (fun _ h => ⟨fun c r' hr => h.1 c (Proc.devRef .tc r') (Finset.mem_filter.mpr
    ⟨StableHlo.devRef_mem_tcRefs r', fun h' => Bool.false_ne_true (hr.symm.trans h')⟩), h.2⟩) (run_full m hs ρ)

include hs in
/-- The arguments end as they were, and every semaphore counter at zero. -/
theorem run_frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
      (h.1 c main_arg0 rfl).trans (W7_kept m hs c main_arg0 (by decide)),
      (h.1 c main_arg1 rfl).trans (W7_kept m hs c main_arg1 (by decide)),
      (h.1 c main_arg2 rfl).trans (W7_kept m hs c main_arg2 (by decide)),
      (h.1 c main_arg3 rfl).trans (W7_kept m hs c main_arg3 (by decide)),
      (h.1 c main_arg4 rfl).trans (W7_kept m hs c main_arg4 (by decide)),
      (h.1 c main_arg5 rfl).trans (W7_kept m hs c main_arg5 (by decide)),
      (h.1 c main_arg6 rfl).trans (W7_kept m hs c main_arg6 (by decide)),
      (h.1 c main_arg7 rfl).trans (W7_kept m hs c main_arg7 (by decide)),
      (h.1 c main_arg8 rfl).trans (W7_kept m hs c main_arg8 (by decide))⟩, h.2⟩) (run_main m hs ρ)

end Cert.Proof
-- ==== Proof.Frame.lean ====
/-
  The kernel at its device numbers and the idealized kernel have the same text, so a run of one is a run of the other:
  the frame at the device numbers is the generic run read there.
-/
module

public import proofs.«01_k».proof.Defs
public import proofs.«01_k».proof.Proof.Gen.Kernel.Launch
public import proofs.«01_k».proof.Proof.Run

@[expose] public section

noncomputable section

namespace Cert.Proof

open Idealize.ShloMosaic Idealize.ShloMosaic.TcCoe Idealize.SL.Sem Cert.Kernel Idealize.SL

attribute [local instance] Cert.Kernel.Gen.facts Cert.KernelIdeal.Gen.facts Cert.Pre_in_range.Gen.facts
/-! ## The two programs have the same text: their calls, bodies and host operations are equal -/

theorem pcfgs_same : @Cert.Kernel.pcfgs Bits _ _ = @Cert.KernelIdeal.pcfgs Bits _ _ := rfl
theorem defs_same : @Cert.Kernel.defs₀ Bits _ _ = @Cert.KernelIdeal.defs₀ Bits _ _ := by
  unfold Cert.Kernel.defs₀ Cert.KernelIdeal.defs₀
  refine congrArg _ (funext fun l => funext fun x => ?_)
  match l, x with
  | 0, (t, s) => rfl
  | 1, (t, s) => rfl
  | 2, (t, s) => rfl

theorem ops0_same : Cert.Kernel.Gen.hostOps0 (F := Bits) = Cert.KernelIdeal.Gen.hostOps0 := rfl
theorem ops1_same : Cert.Kernel.Gen.hostOps1 (F := Bits) = Cert.KernelIdeal.Gen.hostOps1 := rfl
theorem ops2_same : Cert.Kernel.Gen.hostOps2 (F := Bits) = Cert.KernelIdeal.Gen.hostOps2 := rfl
theorem ops3_same : Cert.Kernel.Gen.hostOps3 (F := Bits) = Cert.KernelIdeal.Gen.hostOps3 := rfl

/-- Three calls between four host stretches, run. -/
def runOf {nD : ℕ} {τ : Topo} {sig : RefSig} {Val : EltTy → Type} {Λ₀ : Labels} (pcs : Fin 3 → Pipeline.PCfg sig Λ₀ Val)
    (defs₀ : Defs nD τ sig Val Λ₀) (h0 h1 h2 h3 : List (HloOp τ sig Val)) (s : MemSt nD τ sig Val) (Q : PUnit × MemSt nD τ sig Val → Prop) : Prop :=
  θ_run (Pipeline.defs pcs defs₀) (onTc (τ := τ) (fun _ : Dev nD => (Pipeline.chain
  [ StableHlo.seq h0,
    Prog.lift (.customCall (Pipeline.entry 0) ()),
    StableHlo.seq h1,
    Prog.lift (.customCall (Pipeline.entry 1) ()),
    StableHlo.seq h2,
    Prog.lift (.customCall (Pipeline.entry 2) ()),
    StableHlo.seq h3 ] : Prog (TpuEff nD τ sig Val (Pipeline.Sig Λ₀ (Fin 3) fun p => (pcs p).Adm) .tc) PUnit))) s Q

/-- Each program is its three calls between its four stretches. -/
theorem run_k (s Q) : θ_run (Cert.Kernel.defs (F := Bits)) (onTc (τ := Cert.Kernel.τ) (Cert.Kernel.main (F := Bits))) s Q
    = runOf Cert.Kernel.pcfgs Cert.Kernel.defs₀ Cert.Kernel.Gen.hostOps0 Cert.Kernel.Gen.hostOps1 Cert.Kernel.Gen.hostOps2 Cert.Kernel.Gen.hostOps3 s Q := by
  rw [show Cert.Kernel.main (F := Bits) = _ from funext Cert.Kernel.Gen.main_chain]
  rfl

theorem run_i (s Q) : θ_run (Cert.KernelIdeal.defs (F := Bits)) (onTc (τ := Cert.KernelIdeal.τ) (Cert.KernelIdeal.main (F := Bits))) s Q
    = runOf Cert.KernelIdeal.pcfgs Cert.KernelIdeal.defs₀ Cert.KernelIdeal.Gen.hostOps0 Cert.KernelIdeal.Gen.hostOps1 Cert.KernelIdeal.Gen.hostOps2 Cert.KernelIdeal.Gen.hostOps3 s Q := by
  rw [show Cert.KernelIdeal.main (F := Bits) = _ from funext Cert.KernelIdeal.Gen.main_chain]
  rfl

/-- So the two runs are one. -/
theorem same (s Q) : runOf (Cert.Kernel.pcfgs (F := Bits)) Cert.Kernel.defs₀ Cert.Kernel.Gen.hostOps0 Cert.Kernel.Gen.hostOps1 Cert.Kernel.Gen.hostOps2 Cert.Kernel.Gen.hostOps3 s Q
   = runOf (Cert.KernelIdeal.pcfgs (F := Bits)) Cert.KernelIdeal.defs₀ Cert.KernelIdeal.Gen.hostOps0 Cert.KernelIdeal.Gen.hostOps1 Cert.KernelIdeal.Gen.hostOps2 Cert.KernelIdeal.Gen.hostOps3 s Q := by
  rw [← pcfgs_same, ← defs_same, ops0_same, ops1_same, ops2_same, ops3_same]
  rfl

/-- The kernel's frame, at its device numbers. -/
theorem frame_kernel : Cert.quiescent_Kernel := fun m ρ hp => by
  rw [run_k, same, ← run_i]
  exact run_frame (F := Bits) m (small_of_pre _ _ _ _ _ _ _ _ _ (hp 0)) ρ

end Cert.Proof

end
-- ==== Proof.Value.lean ====
/-
  What the three calls leave in their output arrays, element by element.
-/
module

public import proofs.«01_k».proof.Proof.Run
public import Idealize.ShloMosaic.Lib.Pipeline.ValueKit.Geometry

@[expose] public section

noncomputable section

namespace Cert.Proof

open Cert.KernelIdeal Cert.KernelIdeal.Gen
open Idealize.ShloMosaic Idealize.ShloMosaic.TcCoe Idealize.ShloMosaic.Tactic
open Idealize.SL Idealize.SL.RA
open Idealize.ShloMosaic.Pipeline (Dat)
open ValueIdx (ix1 ix2 ix3)

variable {F : FTy → Type} [FloatOps F]

variable (V : Vals F) (c : Dev nD)

theorem ofNat_small (n : Nat) (h : n < 16384) : (BitVec.ofNat 32 n).toNat = n := by
  rw [BitVec.toNat_ofNat]; exact Nat.mod_eq_of_lt (by omega)

/-! ## The gather call -/

theorem coords0_val (t : Fin grid0.N) : (grid0.coords t 0).val = t.val := by
  have ht : t.val < 16384 := lt_of_lt_of_eq t.isLt (by decide)
  rw [Pipeline.Grid.coords_val t 0 (S := 1) (B := 16384) (by decide) rfl]
  omega

theorem index0_1 (a : (pcfg0 (F := F)).Adm) (t : Fin grid0.N) : (win0 a 1).index t = ![t.val, 0, 0] := by
  show cc0_transform_1 (grid0.coords t) = _
  have ht : t.val < 16384 := lt_of_lt_of_eq t.isLt (by decide)
  show ![(BitVec.ofNat 32 (grid0.coords t 0).val).toNat, 0, 0] = _
  rw [coords0_val, ofNat_small _ ht]

theorem index0_0 (x : S16384.Idx → BitVec 32) (h : Small x) (t : Fin grid0.N) :
    (win0 (adm0 (F := F) x h) 0).index t = ![(x (ix1 (grid0.coords t 0))).toNat, 0, 0] :=
  gather_row x (grid0.coords t)

/-- A window whose index moves from every point to the next is written back at every point. -/
theorem flush_of_ne {G : Pipeline.Grid} (w : Pipeline.Window sig G) (ho : w.isOut = true) (t : Fin G.N)
    (hne : ∀ h : t.val + 1 < G.N, w.index ⟨t.val + 1, h⟩ ≠ w.index t) : w.flush t = true := by
  unfold Pipeline.Window.flush
  rw [ho, Bool.true_and, Bool.or_eq_true, decide_eq_true_eq, decide_eq_true_eq]
  rcases Nat.lt_or_ge (t.val + 1) G.N with h | h
  · exact Or.inr ⟨h, hne h⟩
  · exact Or.inl (le_antisymm t.isLt h)

theorem flush0_1 (a : (pcfg0 (F := F)).Adm) (t : Fin grid0.N) : (win0 a 1).flush t = true :=
  flush_of_ne _ rfl t fun h e => by
    rw [index0_1, index0_1] at e
    have := congrFun e 0
    simp at this

/-- Where the output block's elements sit in the array; and the input block's. -/
theorem place0_1 (a : (pcfg0 (F := F)).Adm) (t : Fin grid0.N) (y : S1x1x256.Idx) :
    (((win0 a 1).blk t).view.emb y : S16384x1x256.Idx) = ix3 (grid0.coords t 0) (y 1) (y 2) := by
  have e := index0_1 a t
  have h0 : (y 0).val < 1 := (y 0).isLt
  have h1 : (y 1).val < 1 := (y 1).isLt
  funext k
  refine Fin.ext (((win0 a 1).rect_emb_val t y k).trans ?_)
  rw [e]
  match k with
  | ⟨0, _⟩ => show t.val * 1 + (y 0).val = (grid0.coords t 0).val; rw [coords0_val]; omega
  | ⟨1, _⟩ => show 0 * 1 + (y 1).val = (y 1).val; omega
  | ⟨2, _⟩ => show 0 * 256 + (y 2).val = (y 2).val; omega

theorem place0_0 (x : S16384.Idx → BitVec 32) (h : Small x) (t : Fin grid0.N) (y : S1x1x256.Idx) :
    (((win0 (adm0 (F := F) x h) 0).blk t).view.emb y : S100001x1x256.Idx)
      = ix3 ⟨(x (ix1 (grid0.coords t 0))).toNat, by have := h (ix1 (grid0.coords t 0)); omega⟩ (y 1) (y 2) := by
  have e := index0_0 (F := F) x h t
  have h0 : (y 0).val < 1 := (y 0).isLt
  have h1 : (y 1).val < 1 := (y 1).isLt
  funext k
  refine Fin.ext (((win0 (adm0 (F := F) x h) 0).rect_emb_val t y k).trans ?_)
  rw [e]
  match k with
  | ⟨0, _⟩ => show (x (ix1 (grid0.coords t 0))).toNat * 1 + (y 0).val = (x (ix1 (grid0.coords t 0))).toNat; omega
  | ⟨1, _⟩ => show 0 * 1 + (y 1).val = (y 1).val; omega
  | ⟨2, _⟩ => show 0 * 256 + (y 2).val = (y 2).val; omega

/-- Row `x i` of the gathered array, for every `i`. -/
def gathered (x : S16384.Idx → BitVec 32) (h : Small x) (A : S100001x1x256.Idx → Elt F .f32) : S16384x1x256.Idx → Elt F .f32 :=
  fun i => A (ix3 ⟨(x (ix1 (i 0))).toNat, by have := h (ix1 (i 0)); omega⟩ (i 1) (i 2))

theorem gatherBlk_apply (x : S16384.Idx → BitVec 32) (h : Small x) (t : Fin grid0.N) (y : S1x1x256.Idx) :
    gatherBlk V c (adm0 x h) t y = gathered x h (V c main_v0) (ix3 (grid0.coords t 0) (y 1) (y 2)) := by
  show V c main_v0 (((win0 (adm0 (F := F) x h) 0).blk t).view.emb y) = _
  exact congrArg (V c main_v0) (place0_0 x h t y)

theorem cover0_1 (a : (pcfg0 (F := F)).Adm) (i : S16384x1x256.Idx) :
    ∃ t : Fin grid0.N, (win0 a 1).flush t = true ∧ i ∈ ((win0 a 1).blk t).view.set := by
  have hi : (i 0).val < 16384 := (i 0).isLt
  have hN : grid0.N = 16384 := by decide
  obtain ⟨t, ht⟩ : ∃ t : Fin grid0.N, t.val = (i 0).val := ⟨⟨(i 0).val, by omega⟩, rfl⟩
  have e : (((win0 a 1).blk t).view.emb (ix3 0 (i 1) (i 2) : S1x1x256.Idx) : S16384x1x256.Idx) = i := by
    rw [place0_1]
    funext k
    match k with
    | ⟨0, _⟩ => exact Fin.ext ((coords0_val _).trans ht)
    | ⟨1, _⟩ => rfl
    | ⟨2, _⟩ => rfl
  refine ⟨t, flush0_1 _ _, ?_⟩
  rw [← e]
  exact View.emb_mem_set _ _

theorem gather_value (x : S16384.Idx → BitVec 32) (h : Small x) :
    (dat0 V c (adm0 x h)).arrAt 1 (cfg0 (adm0 (F := F) x h)).N = gathered x h (V c main_v0) := by
  refine (dat0 V c (adm0 x h)).arrAt_eq_of_emb 1 (gathered x h (V c main_v0)) (fun t _ y => ?_) (cover0_1 _)
  exact (congrFun (shapeCast_self (gatherBlk V c (adm0 x h) t) _) y).trans <| (gatherBlk_apply V c x h t y).trans
    (congrArg (gathered x h (V c main_v0)) (place0_1 (adm0 (F := F) x h) t y).symm)

/-! ## The scatter call -/

/-- After the write-backs below `n`, an element of the block at a flushing point `t` below `n` that no later flushing
    point covers is what point `t` wrote there. -/
theorem arrAt_last {Λ₀ : Idealize.SL.Sem.Labels} {cfg : Pipeline.Cfg sig Λ₀} (dat : Dat τ (Elt F) Unit ℕ UU ℕ cfg c) (w : Fin cfg.W)
    (t : Fin cfg.N) (hf : (cfg.win w).flush t = true) (y : ((cfg.win w).xblock (cfg.grid.coords t)).Idx)
    (hlast : ∀ t' : Fin cfg.N, t.val < t'.val → (cfg.win w).flush t' = true →
      ((cfg.win w).blk t).view.emb y ∉ ((cfg.win w).blk t').view.set) :
    ∀ n, t.val < n → dat.arrAt w n (((cfg.win w).blk t).view.emb y)
      = _root_.cast (congrArg (Elt F) ((cfg.win w).blk t).view.elt_eq.symm) (dat.flushed w t y)
  | 0, h => absurd h (Nat.not_lt_zero _)
  | n + 1, h => by
    rw [dat.arrAt_succ_apply]
    rcases Nat.lt_or_ge t.val n with htn | htn
    · have ih := arrAt_last dat w t hf y hlast n htn
      by_cases hn : n < cfg.N
      · rw [dif_pos hn]
        by_cases hfn : (cfg.win w).flush ⟨n, hn⟩ = true
        · rw [if_pos hfn, View.write_of_not_mem _ _ _ (by rw [View.setOn_univ]; exact hlast ⟨n, hn⟩ htn hfn)]
          exact ih
        · rw [if_neg hfn]; exact ih
      · rw [dif_neg hn]; exact ih
    · obtain rfl : n = t.val := by omega
      rw [dif_pos t.isLt, if_pos hf]
      exact View.write_emb_of_mem _ _ (Finset.mem_univ y)

theorem coords2_val (t : Fin grid2.N) : (grid2.coords t 0).val = t.val := by
  have ht : t.val < 16384 := lt_of_lt_of_eq t.isLt (by decide)
  rw [Pipeline.Grid.coords_val t 0 (S := 1) (B := 16384) (by decide) rfl]
  omega

theorem index2_0 (a : (pcfg2 (F := F)).Adm) (t : Fin grid2.N) : (win2 a 0).index t = ![t.val, 0, 0] := by
  show cc2_transform_0 (grid2.coords t) = _
  have ht : t.val < 16384 := lt_of_lt_of_eq t.isLt (by decide)
  show ![(BitVec.ofNat 32 (grid2.coords t 0).val).toNat, 0, 0] = _
  rw [coords2_val, ofNat_small _ ht]

theorem index2_1 (x : S16384.Idx → BitVec 32) (h : Small x) (t : Fin grid2.N) :
    (win2 (adm2 (F := F) x h) 1).index t = ![(x (ix1 (grid2.coords t 0))).toNat, 0, 0] :=
  scatter_row x (grid2.coords t)

theorem place2_0 (a : (pcfg2 (F := F)).Adm) (t : Fin grid2.N) (y : S1x1x256.Idx) :
    (((win2 a 0).blk t).view.emb y : S16384x1x256.Idx) = ix3 (grid2.coords t 0) (y 1) (y 2) := by
  have e := index2_0 a t
  have h0 : (y 0).val < 1 := (y 0).isLt
  have h1 : (y 1).val < 1 := (y 1).isLt
  funext k
  refine Fin.ext (((win2 a 0).rect_emb_val t y k).trans ?_)
  rw [e]
  match k with
  | ⟨0, _⟩ => show t.val * 1 + (y 0).val = (grid2.coords t 0).val; rw [coords2_val]; omega
  | ⟨1, _⟩ => show 0 * 1 + (y 1).val = (y 1).val; omega
  | ⟨2, _⟩ => show 0 * 256 + (y 2).val = (y 2).val; omega

theorem place2_1 (x : S16384.Idx → BitVec 32) (h : Small x) (t : Fin grid2.N) (y : S1x1x256.Idx) :
    (((win2 (adm2 (F := F) x h) 1).blk t).view.emb y : S100001x1x256.Idx)
      = ix3 ⟨(x (ix1 (grid2.coords t 0))).toNat, by have := h (ix1 (grid2.coords t 0)); omega⟩ (y 1) (y 2) := by
  have e := index2_1 (F := F) x h t
  have h0 : (y 0).val < 1 := (y 0).isLt
  have h1 : (y 1).val < 1 := (y 1).isLt
  funext k
  refine Fin.ext (((win2 (adm2 (F := F) x h) 1).rect_emb_val t y k).trans ?_)
  rw [e]
  match k with
  | ⟨0, _⟩ => show (x (ix1 (grid2.coords t 0))).toNat * 1 + (y 0).val = (x (ix1 (grid2.coords t 0))).toNat; omega
  | ⟨1, _⟩ => show 0 * 1 + (y 1).val = (y 1).val; omega
  | ⟨2, _⟩ => show 0 * 256 + (y 2).val = (y 2).val; omega

/-- An element of the block written at `t` is in the row the table names at `t`. -/
theorem row_of_mem (x : S16384.Idx → BitVec 32) (h : Small x) (t : Fin grid2.N) (i : S100001x1x256.Idx)
    (hi : i ∈ ((win2 (adm2 (F := F) x h) 1).blk t).view.set) : (x (ix1 (grid2.coords t 0))).toNat = (i 0).val := by
  obtain ⟨y, -, hy⟩ := Finset.mem_map.mp hi
  have e := (place2_1 (F := F) x h t y).symm.trans hy
  exact congrArg (fun j : S100001x1x256.Idx => (j 0).val) e

/-- A row no entry of the table names is left as it was. -/
theorem scatter_miss (x : S16384.Idx → BitVec 32) (h : Small x) (i : S100001x1x256.Idx)
    (hno : ∀ n : Fin 16384, (x (ix1 n)).toNat ≠ (i 0).val) :
    (dat2 V c (adm2 x h)).arrAt 1 (cfg2 (adm2 (F := F) x h)).N i = V c main_v6 i :=
  (dat2 V c (adm2 x h)).arrAt_apply_of_forall_not_mem 1 _ i fun t _ _ hi => hno _ (row_of_mem x h t i hi)

/-- A row some entry names holds the last such entry's row of the new states. -/
theorem scatter_hit (x : S16384.Idx → BitVec 32) (h : Small x) (i : S100001x1x256.Idx) (n : Fin 16384)
    (hn : (x (ix1 n)).toNat = (i 0).val) (hlast : ∀ n' : Fin 16384, n < n' → (x (ix1 n')).toNat ≠ (i 0).val) :
    (dat2 V c (adm2 x h)).arrAt 1 (cfg2 (adm2 (F := F) x h)).N i = V c main_v4 (ix3 n (i 1) (i 2)) := by
  have hN : grid2.N = 16384 := by decide
  obtain ⟨t, ht⟩ : ∃ t : Fin grid2.N, t.val = n.val := ⟨⟨n.val, by omega⟩, rfl⟩
  have hc : grid2.coords t 0 = n := Fin.ext ((coords2_val t).trans ht)
  obtain ⟨y, hy1, hy2⟩ : ∃ y : S1x1x256.Idx, y 1 = i 1 ∧ y 2 = i 2 := ⟨ix3 0 (i 1) (i 2), rfl, rfl⟩
  have e : (((win2 (adm2 (F := F) x h) 1).blk t).view.emb y : S100001x1x256.Idx) = i := by
    rw [place2_1]
    funext k
    match k with
    | ⟨0, _⟩ => refine Fin.ext ?_; show (x (ix1 (grid2.coords t 0))).toNat = (i 0).val; rw [hc]; exact hn
    | ⟨1, _⟩ => exact hy1
    | ⟨2, _⟩ => exact hy2
  have hf : (win2 (adm2 (F := F) x h) 1).flush t = true := flush_of_ne _ rfl t fun h' e' => by
    rw [index2_1, index2_1] at e'
    have e'' : (x (ix1 (grid2.coords ⟨t.val + 1, h'⟩ 0))).toNat = (x (ix1 (grid2.coords t 0))).toNat := congrFun e' 0
    refine hlast (grid2.coords ⟨t.val + 1, h'⟩ 0) ?_ (e''.trans (by rw [hc]; exact hn))
    show n.val < (grid2.coords ⟨t.val + 1, h'⟩ 0).val
    rw [coords2_val]; show n.val < t.val + 1; omega
  have key := arrAt_last c (dat2 V c (adm2 x h)) 1 t hf y (fun t' htt _ hi => by
    refine hlast (grid2.coords t' 0) ?_ ((row_of_mem x h t' _ hi).trans ?_)
    · show n.val < (grid2.coords t' 0).val
      rw [coords2_val]; omega
    · exact congrArg (fun j : S100001x1x256.Idx => (j 0).val) e) (cfg2 (adm2 (F := F) x h)).N t.isLt
  refine (congrArg ((dat2 V c (adm2 x h)).arrAt 1 (cfg2 (adm2 (F := F) x h)).N) e).symm.trans (key.trans ?_)
  refine (congrFun (shapeCast_self (scatterBlk V c (adm2 x h) t) _) y).trans ?_
  refine (congrArg (V c main_v4) (place2_0 (adm2 (F := F) x h) t y)).trans ?_
  rw [hc, hy1, hy2]
  rfl

end Cert.Proof

end
-- ==== Proof.Cell.lean ====
/-
  One node's new state, as a formula of its message, its old state and the weights; and that both the kernel's cell
  body and the reference's operations compute it, at exact arithmetic.
-/
module

public import proofs.«01_k».proof.Proof.Gen.KernelIdeal.Skeleton
public import proofs.«01_k».proof.Proof.Gen.ReferenceIdeal
public import Idealize.ShloMosaic.Lib.Pointwise

@[expose] public section

noncomputable section

namespace Cert.Proof

open Idealize.ShloMosaic

/-! ## The formula -/

section Formula

variable (x h : Fin 256 → EReal) (W : Fin 256 → Fin 256 → EReal) (Wi Wh : Fin 768 → Fin 256 → EReal) (bi bh : Fin 768 → EReal)

/-- The message projected: the row `x` times `W`. -/
def projected (k : Fin 256) : EReal := ∑ q, x q * W q k

/-- One of the three gates' input part, at position `q` of the 768; and its state part. -/
def fromInput (q : Fin 768) : EReal := (∑ k, projected x W k * Wi q k) + bi q
def fromState (q : Fin 768) : EReal := (∑ k, h k * Wh q k) + bh q

/-- Column `j` of the first, second and third block of 256. -/
def col0 (j : Fin 256) : Fin 768 := ⟨j.val, by omega⟩
def col1 (j : Fin 256) : Fin 768 := ⟨256 + j.val, by omega⟩
def col2 (j : Fin 256) : Fin 768 := ⟨512 + j.val, by omega⟩

def resetGate (j : Fin 256) : EReal := Ideal.logistic (fromInput x W Wi bi (col0 j) + fromState h Wh bh (col0 j))
def updateGate (j : Fin 256) : EReal := Ideal.logistic (fromInput x W Wi bi (col1 j) + fromState h Wh bh (col1 j))
def candidate (j : Fin 256) : EReal :=
  Ideal.tanh (fromInput x W Wi bi (col2 j) + resetGate x h W Wi Wh bi bh j * fromState h Wh bh (col2 j))

/-- The new state: the candidate and the old state, mixed by the update gate. -/
def newState (j : Fin 256) : EReal :=
  (1 - updateGate x h W Wi Wh bi bh j) * candidate x h W Wi Wh bi bh j + updateGate x h W Wi Wh bi bh j * h j

end Formula

/-! ## The kernel's cell body -/

section Kernel
open Cert.KernelIdeal Cert.KernelIdeal.Gen

set_option maxRecDepth 16384 in
theorem kernel_cell (v0 v1 : Vec Ideal S1024x256 .f32) (v3 : Vec Ideal S256x256 .f32) (v5 v11 : Vec Ideal S768x256 .f32)
    (v7 v13 : Vec Ideal S768 .f32) (r : Fin 1024) (j : Fin 256) :
    k1_pay1 v0 v1 v3 v5 v7 v11 v13 (ix2 r j)
      = newState (fun q => v0 (ix2 r q)) (fun q => v1 (ix2 r q)) (fun q k => v3 (ix2 q k)) (fun q k => v5 (ix2 q k))
          (fun q k => v11 (ix2 q k)) (fun q => v7 (ix1 q)) (fun q => v13 (ix1 q)) j := by
  unfold newState candidate resetGate updateGate fromInput fromState projected col0 col1 col2
  pointwise [k1_pay1]

end Kernel

/-! ## The reference's operations -/

section Reference
open Cert.ReferenceIdeal Cert.ReferenceIdeal.Gen

/-- The reference's input parts and state parts of the gates. -/
def refInput (a2 : FVec Ideal S16384x256 .f32) (a3 : FVec Ideal S256x256 .f32) (a4 : FVec Ideal S768x256 .f32) (a6 : FVec Ideal S768 .f32) :
    FVec Ideal S16384x768 .f32 :=
  addf (Host.dotGeneral dot_S16384x256_S256x768_S16384x768_1_0_0_1_n_n none
      (Host.dotGeneral dot_S16384x256_S256x256_S16384x256_1_0_0_1_n_n none a2 a3)
      (transpose S256x768 [1, 0] a4 transposes_S768x256_S256x768_1_0))
    (broadcastInDim S16384x768 ![0, 1] bcast_S1x768_S16384x768_0_1 (broadcastInDim S1x768 ![1] bcast_S768_S1x768_1 a6))

def refState (h : FVec Ideal S16384x256 .f32) (a5 : FVec Ideal S768x256 .f32) (a7 : FVec Ideal S768 .f32) : FVec Ideal S16384x768 .f32 :=
  addf (Host.dotGeneral dot_S16384x256_S256x768_S16384x768_1_0_0_1_n_n none h
      (transpose S256x768 [1, 0] a5 transposes_S768x256_S256x768_1_0))
    (broadcastInDim S16384x768 ![0, 1] bcast_S1x768_S16384x768_0_1 (broadcastInDim S1x768 ![1] bcast_S768_S1x768_1 a7))

/-- One everywhere. -/
def ones : FVec Ideal S16384x256 .f32 := broadcastInDim S16384x256 ![] bcast_S_S16384x256 (constant S_ .f32 0x3F800000#32)

/-- The reference's logistic function, spelt out. -/
def refLogistic (u : FVec Ideal S16384x256 .f32) : FVec Ideal S16384x256 .f32 := Host.divf ones (addf ones (Host.exp (Host.negf u)))

/-- The reference's new states from the gates' parts and the old states. -/
def refMix (gi gh : FVec Ideal S16384x768 .f32) (h : FVec Ideal S16384x256 .f32) : FVec Ideal S16384x256 .f32 :=
  addf
    (mulf
      (subf ones (refLogistic (addf (extractStridedSlice S16384x256 ![0, 256] gi slices_S16384x768_S16384x256_0_256)
        (extractStridedSlice S16384x256 ![0, 256] gh slices_S16384x768_S16384x256_0_256))))
      (Host.tanh (addf (extractStridedSlice S16384x256 ![0, 512] gi slices_S16384x768_S16384x256_0_512)
        (mulf (refLogistic (addf (extractStridedSlice S16384x256 ![0, 0] gi slices_S16384x768_S16384x256_0_0)
            (extractStridedSlice S16384x256 ![0, 0] gh slices_S16384x768_S16384x256_0_0)))
          (extractStridedSlice S16384x256 ![0, 512] gh slices_S16384x768_S16384x256_0_512)))))
    (mulf (refLogistic (addf (extractStridedSlice S16384x256 ![0, 256] gi slices_S16384x768_S16384x256_0_256)
      (extractStridedSlice S16384x256 ![0, 256] gh slices_S16384x768_S16384x256_0_256))) h)

theorem refInput_apply (a2 : FVec Ideal S16384x256 .f32) (a3 : FVec Ideal S256x256 .f32) (a4 : FVec Ideal S768x256 .f32)
    (a6 : FVec Ideal S768 .f32) (n : Fin 16384) (q : Fin 768) :
    refInput a2 a3 a4 a6 (ix2 n q)
      = fromInput (fun p => a2 (ix2 n p)) (fun p k => a3 (ix2 p k)) (fun p k => a4 (ix2 p k)) (fun p => a6 (ix1 p)) q := by
  unfold fromInput projected
  pointwise [refInput]

theorem refState_apply (h : FVec Ideal S16384x256 .f32) (a5 : FVec Ideal S768x256 .f32) (a7 : FVec Ideal S768 .f32)
    (n : Fin 16384) (q : Fin 768) :
    refState h a5 a7 (ix2 n q) = fromState (fun p => h (ix2 n p)) (fun p k => a5 (ix2 p k)) (fun p => a7 (ix1 p)) q := by
  unfold fromState
  pointwise [refState]

theorem refLogistic_apply (u : FVec Ideal S16384x256 .f32) (i : S16384x256.Idx) : refLogistic u i = Ideal.logistic (u i) := by
  pointwise [refLogistic, ones]
  rfl

theorem ref_cell (a2 h : FVec Ideal S16384x256 .f32) (a3 : FVec Ideal S256x256 .f32) (a4 a5 : FVec Ideal S768x256 .f32)
    (a6 a7 : FVec Ideal S768 .f32) (n : Fin 16384) (j : Fin 256) :
    refMix (refInput a2 a3 a4 a6) (refState h a5 a7) h (ix2 n j)
      = newState (fun q => a2 (ix2 n q)) (fun q => h (ix2 n q)) (fun q k => a3 (ix2 q k)) (fun q k => a4 (ix2 q k))
          (fun q k => a5 (ix2 q k)) (fun q => a6 (ix1 q)) (fun q => a7 (ix1 q)) j := by
  unfold newState candidate resetGate updateGate
  pointwise [refMix, refLogistic_apply, ones]
  simp only [refInput_apply, refState_apply]
  rfl

end Reference

end Cert.Proof

end
-- ==== Proof.CellValue.lean ====
/-
  What the cell call leaves in its output array: row by row, the new state of that row's message and old state.
-/
module

public import proofs.«01_k».proof.Proof.Dats
public import proofs.«01_k».proof.Proof.Cell
public import Idealize.ShloMosaic.Lib.Pipeline.ValueKit.Geometry

@[expose] public section

noncomputable section

namespace Cert.Proof

open Cert.KernelIdeal Cert.KernelIdeal.Gen
open Idealize.ShloMosaic Idealize.ShloMosaic.TcCoe Idealize.ShloMosaic.Tactic
open Idealize.SL Idealize.SL.RA
open Idealize.ShloMosaic.Pipeline (Dat)

theorem cell_point_lt (t : Fin cfg1.N) : t.val < 16 := lt_of_lt_of_eq t.isLt (by decide)

/-- Row `r` of grid point `t`'s block is this row of the array. -/
def cellRow (t : Fin cfg1.N) (r : Fin 1024) : Fin 16384 := ⟨t.val * 1024 + r.val, by have := cell_point_lt t; omega⟩

theorem index1_0 : ∀ t : Fin cfg1.N, (win1 0).index t = ![t.val, 0] := by decide +kernel
theorem index1_1 : ∀ t : Fin cfg1.N, (win1 1).index t = ![t.val, 0] := by decide +kernel
theorem index1_2 : ∀ t : Fin cfg1.N, (win1 2).index t = ![0, 0] := by decide +kernel
theorem index1_3 : ∀ t : Fin cfg1.N, (win1 3).index t = ![0, 0] := by decide +kernel
theorem index1_4 : ∀ t : Fin cfg1.N, (win1 4).index t = ![0, 0] := by decide +kernel
theorem index1_5 : ∀ t : Fin cfg1.N, (win1 5).index t = ![0] := by decide +kernel
theorem index1_6 : ∀ t : Fin cfg1.N, (win1 6).index t = ![0] := by decide +kernel
theorem index1_7 : ∀ t : Fin cfg1.N, (win1 7).index t = ![t.val, 0] := by decide +kernel

theorem place1_0 (t : Fin cfg1.N) (y : S1024x256.Idx) : (((win1 0).blk t).view.emb y : S16384x256.Idx) = ix2 (cellRow t (y 0)) (y 1) := by
  have e := index1_0 t
  funext k
  refine Fin.ext (((win1 0).rect_emb_val t y k).trans ?_)
  rw [e]
  match k with
  | ⟨0, _⟩ => rfl
  | ⟨1, _⟩ => show 0 * 256 + (y 1).val = (y 1).val; omega

theorem place1_1 (t : Fin cfg1.N) (y : S1024x256.Idx) : (((win1 1).blk t).view.emb y : S16384x256.Idx) = ix2 (cellRow t (y 0)) (y 1) := by
  have e := index1_1 t
  funext k
  refine Fin.ext (((win1 1).rect_emb_val t y k).trans ?_)
  rw [e]
  match k with
  | ⟨0, _⟩ => rfl
  | ⟨1, _⟩ => show 0 * 256 + (y 1).val = (y 1).val; omega

theorem place1_7 (t : Fin cfg1.N) (y : S1024x256.Idx) : (((win1 7).blk t).view.emb y : S16384x256.Idx) = ix2 (cellRow t (y 0)) (y 1) := by
  have e := index1_7 t
  funext k
  refine Fin.ext (((win1 7).rect_emb_val t y k).trans ?_)
  rw [e]
  match k with
  | ⟨0, _⟩ => rfl
  | ⟨1, _⟩ => show 0 * 256 + (y 1).val = (y 1).val; omega

theorem place1_2 (t : Fin cfg1.N) (y : S256x256.Idx) : (((win1 2).blk t).view.emb y : S256x256.Idx) = y := by
  have e := index1_2 t
  funext k
  refine Fin.ext (((win1 2).rect_emb_val t y k).trans ?_)
  rw [e]
  match k with
  | ⟨0, _⟩ => show 0 * 256 + (y 0).val = (y 0).val; omega
  | ⟨1, _⟩ => show 0 * 256 + (y 1).val = (y 1).val; omega

theorem place1_3 (t : Fin cfg1.N) (y : S768x256.Idx) : (((win1 3).blk t).view.emb y : S768x256.Idx) = y := by
  have e := index1_3 t
  funext k
  refine Fin.ext (((win1 3).rect_emb_val t y k).trans ?_)
  rw [e]
  match k with
  | ⟨0, _⟩ => show 0 * 768 + (y 0).val = (y 0).val; omega
  | ⟨1, _⟩ => show 0 * 256 + (y 1).val = (y 1).val; omega

theorem place1_4 (t : Fin cfg1.N) (y : S768x256.Idx) : (((win1 4).blk t).view.emb y : S768x256.Idx) = y := by
  have e := index1_4 t
  funext k
  refine Fin.ext (((win1 4).rect_emb_val t y k).trans ?_)
  rw [e]
  match k with
  | ⟨0, _⟩ => show 0 * 768 + (y 0).val = (y 0).val; omega
  | ⟨1, _⟩ => show 0 * 256 + (y 1).val = (y 1).val; omega

theorem place1_5 (t : Fin cfg1.N) (y : S768.Idx) : (((win1 5).blk t).view.emb y : S768.Idx) = y := by
  have e := index1_5 t
  funext k
  refine Fin.ext (((win1 5).rect_emb_val t y k).trans ?_)
  rw [e]
  match k with
  | ⟨0, _⟩ => show 0 * 768 + (y 0).val = (y 0).val; omega

theorem place1_6 (t : Fin cfg1.N) (y : S768.Idx) : (((win1 6).blk t).view.emb y : S768.Idx) = y := by
  have e := index1_6 t
  funext k
  refine Fin.ext (((win1 6).rect_emb_val t y k).trans ?_)
  rw [e]
  match k with
  | ⟨0, _⟩ => show 0 * 768 + (y 0).val = (y 0).val; omega

variable (V : Vals Ideal) (c : Dev nD)

theorem cellBlk0_apply (t : Fin cfg1.N) (y : S1024x256.Idx) : cellBlk0 V c t y = V c main_arg2 (ix2 (cellRow t (y 0)) (y 1)) := by
  show V c main_arg2 (((win1 0).blk t).view.emb y) = _
  exact congrArg (V c main_arg2) (place1_0 t y)
theorem cellBlk1_apply (t : Fin cfg1.N) (y : S1024x256.Idx) : cellBlk1 V c t y = V c main_v2 (ix2 (cellRow t (y 0)) (y 1)) := by
  show V c main_v2 (((win1 1).blk t).view.emb y) = _
  exact congrArg (V c main_v2) (place1_1 t y)
theorem cellBlk2_apply (t : Fin cfg1.N) (y : S256x256.Idx) : cellBlk2 V c t y = V c main_arg3 y := by
  show V c main_arg3 (((win1 2).blk t).view.emb y) = _
  exact congrArg (V c main_arg3) (place1_2 t y)
theorem cellBlk3_apply (t : Fin cfg1.N) (y : S768x256.Idx) : cellBlk3 V c t y = V c main_arg4 y := by
  show V c main_arg4 (((win1 3).blk t).view.emb y) = _
  exact congrArg (V c main_arg4) (place1_3 t y)
theorem cellBlk4_apply (t : Fin cfg1.N) (y : S768x256.Idx) : cellBlk4 V c t y = V c main_arg5 y := by
  show V c main_arg5 (((win1 4).blk t).view.emb y) = _
  exact congrArg (V c main_arg5) (place1_4 t y)
theorem cellBlk5_apply (t : Fin cfg1.N) (y : S768.Idx) : cellBlk5 V c t y = V c main_arg6 y := by
  show V c main_arg6 (((win1 5).blk t).view.emb y) = _
  exact congrArg (V c main_arg6) (place1_5 t y)
theorem cellBlk6_apply (t : Fin cfg1.N) (y : S768.Idx) : cellBlk6 V c t y = V c main_arg7 y := by
  show V c main_arg7 (((win1 6).blk t).view.emb y) = _
  exact congrArg (V c main_arg7) (place1_6 t y)

/-- Every row's new state. -/
def allNew (x h : S16384x256.Idx → EReal) (W : S256x256.Idx → EReal) (Wi Wh : S768x256.Idx → EReal) (bi bh : S768.Idx → EReal) :
    S16384x256.Idx → EReal :=
  fun i => newState (fun q => x (ix2 (i 0) q)) (fun q => h (ix2 (i 0) q)) (fun q k => W (ix2 q k)) (fun q k => Wi (ix2 q k))
    (fun q k => Wh (ix2 q k)) (fun q => bi (ix1 q)) (fun q => bh (ix1 q)) (i 1)

theorem cellNew_apply (t : Fin cfg1.N) (r : Fin 1024) (j : Fin 256) :
    cellNew V c t (ix2 r j) = allNew (V c main_arg2) (V c main_v2) (V c main_arg3) (V c main_arg4) (V c main_arg5) (V c main_arg6)
      (V c main_arg7) (ix2 (cellRow t r) j) := by
  unfold cellNew
  rw [kernel_cell]
  unfold allNew
  simp only [cellBlk0_apply, cellBlk1_apply, cellBlk2_apply, cellBlk3_apply, cellBlk4_apply, cellBlk5_apply, cellBlk6_apply]
  rfl

theorem cell_value : (dat1 V c).arrAt 7 cfg1.N = allNew (V c main_arg2) (V c main_v2) (V c main_arg3) (V c main_arg4) (V c main_arg5)
    (V c main_arg6) (V c main_arg7) := by
  refine (dat1 V c).arrAt_eq_of_covers 7 (allNew (V c main_arg2) (V c main_v2) (V c main_arg3) (V c main_arg4) (V c main_arg5)
    (V c main_arg6) (V c main_arg7)) (by decide +kernel) fun t _ y => ?_
  have hy : (y : S1024x256.Idx) = ix2 (y 0) (y 1) := by funext k; match k with | ⟨0, _⟩ => rfl | ⟨1, _⟩ => rfl
  refine Eq.trans (b := cellNew V c t y) rfl ?_
  exact (congrArg (cellNew V c t) hy).trans ((cellNew_apply V c t (y 0) (y 1)).trans
    (congrArg (allNew (V c main_arg2) (V c main_v2) (V c main_arg3) (V c main_arg4) (V c main_arg5) (V c main_arg6) (V c main_arg7))
      (place1_7 t y).symm))

end Cert.Proof

end
-- ==== Proof.Ref.lean ====
/-
  The reference's indexing, element by element: the rows it takes and the rows its scatter leaves.
-/
module

public import proofs.«01_k».proof.Proof.Tables
public import proofs.«01_k».proof.Proof.Gen.ReferenceIdeal
public import Idealize.ShloMosaic.Lib.Routing.Ops
public import Idealize.ShloMosaic.Lib.Routing.OpsPair
public import Idealize.ShloMosaic.Lib.ReduceAll

@[expose] public section

noncomputable section

namespace Cert.Proof

open Cert.ReferenceIdeal Cert.ReferenceIdeal.Gen
open Idealize.ShloMosaic Idealize.ShloMosaic.Routing
open ValueIdx (ix1 ix2)

variable {F : FTy → Type} [FloatOps F]

/-- The row numbers as the reference reads them: a negative one counted from the end, one column of words. -/
def rowWords (a1 : IVec S16384 32) : IVec S16384x1 32 :=
  broadcastInDim S16384x1 ![0] bcast_S16384_S16384x1_0
    (select (cmpi .slt a1 (broadcastInDim S16384 ![] bcast_S_S16384 (constantI S_ 32 0#32)))
      (addi a1 (broadcastInDim S16384 ![] bcast_S_S16384 (constantI S_ 32 100001#32))) a1)

/-- The rows of `a0` the reference takes: an index out of range gives a row of NaN. -/
def takeRows (a0 : FVec F S100001x256 .f32) (a1 : IVec S16384 32) : FVec F S16384x256 .f32 :=
  select
    (broadcastInDim S16384x256 ![0] bcast_S16384_S16384x256_0
      (Host.reduce IntOp.andi
        (andi (cmpi .sge (rowWords a1) (broadcastInDim S16384x1 ![] bcast_S_S16384x1 (constantI S_ 32 0#32)))
          (cmpi .sle (rowWords a1)
            (broadcastInDim S16384x1 ![0, 1] bcast_S1x1_S16384x1_0_1 (broadcastInDim S1x1 ![1] bcast_S1_S1x1_1 (constantI S1 32 100000#32)))))
        (constantI S_ 1 1#1) reducesTo_S16384x1_S16384_d1 h_S_))
    (Host.gather gather_S100001x256_S16384x1_S16384x256_1_0_n_n_0_1_1256 a0 (rowWords a1))
    (broadcastInDim S16384x256 ![] bcast_S_S16384x256 (constant S_ .f32 0x7FC00000#32))

/-- A vector broadcast to one column, and along the rows of a rectangle. -/
theorem column_apply {α : Type} (x : S16384.Idx → α) (n : Fin 16384) (u : Fin 1) :
    broadcastInDim S16384x1 ![0] bcast_S16384_S16384x1_0 x (ix2 n u) = x (ix1 n) := by
  unfold broadcastInDim
  refine congrArg x (funext fun a => Fin.ext ?_)
  match a with
  | ⟨0, _⟩ => rfl

theorem alongRows_apply {α : Type} (x : S16384.Idx → α) (n : Fin 16384) (j : Fin 256) :
    broadcastInDim S16384x256 ![0] bcast_S16384_S16384x256_0 x (ix2 n j) = x (ix1 n) := by
  unfold broadcastInDim
  refine congrArg x (funext fun a => Fin.ext ?_)
  match a with
  | ⟨0, _⟩ => rfl

theorem rowWords_apply (a1 : IVec S16384 32) (h : Small a1) (n : Fin 16384) (u : Fin 1) : rowWords a1 (ix2 n u) = a1 (ix1 n) := by
  have hn := h (ix1 n)
  unfold rowWords
  rw [column_apply]
  exact wrap_of_lt (a1 (ix1 n)) _ (by omega)

/-- Every row number in range passes the reference's range test. -/
theorem inRange (w : BitVec 32) (h : w.toNat < 100000) :
    IntOp.andi (IntOp.cmpi .sge w 0#32) (IntOp.cmpi .sle w 100000#32) = 1#1 := by
  rw [WordCmp.cmpi_sge_zero, WordCmp.cmpi_sle_of_lt (by omega) (by decide), WordCmp.andi_ofBool, WordCmp.ofBool_eq_one_iff,
    Bool.and_eq_true, decide_eq_true_eq, decide_eq_true_eq]
  exact ⟨by omega, by show w.toNat ≤ 100000; omega⟩

theorem takeRows_apply (a0 : FVec F S100001x256 .f32) (a1 : IVec S16384 32) (h : Small a1) (n : Fin 16384) (j : Fin 256) :
    takeRows a0 a1 (ix2 n j) = a0 (ix2 ⟨(a1 (ix1 n)).toNat, by have := h (ix1 n); omega⟩ j) := by
  have hn := h (ix1 n)
  have mask : broadcastInDim S16384x256 ![0] bcast_S16384_S16384x256_0
      (Host.reduce IntOp.andi
        (andi (cmpi .sge (rowWords a1) (broadcastInDim S16384x1 ![] bcast_S_S16384x1 (constantI S_ 32 0#32)))
          (cmpi .sle (rowWords a1)
            (broadcastInDim S16384x1 ![0, 1] bcast_S1x1_S16384x1_0_1 (broadcastInDim S1x1 ![1] bcast_S1_S1x1_1 (constantI S1 32 100000#32)))))
        (constantI S_ 1 1#1) reducesTo_S16384x1_S16384_d1 h_S_) (ix2 n j) = 1#1 := by
    rw [alongRows_apply]
    refine Host.reduce_andi_one _ _ _ _ _ rfl fun i => ?_
    obtain ⟨p, u, rfl⟩ : ∃ (p : Fin 16384) (u : Fin 1), i = ix2 p u := ⟨i 0, i 1, ValueIdx.eq_ix2 i⟩
    have e := rowWords_apply a1 h p u
    show IntOp.andi (IntOp.cmpi .sge (rowWords a1 (ix2 p u)) 0#32) (IntOp.cmpi .sle (rowWords a1 (ix2 p u)) 100000#32) = 1#1
    rw [e]
    exact inRange _ (h _)
  unfold takeRows
  rw [show ∀ (c : IVec S16384x256 1) (x y : FVec F S16384x256 .f32) i, select c x y i = Scalar.select (c i) (x i) (y i) from fun _ _ _ _ => rfl, mask]
  refine Eq.trans (b := Host.gather gather_S100001x256_S16384x1_S16384x256_1_0_n_n_0_1_1256 a0 (rowWords a1) (ix2 n j)) rfl ?_
  exact Routing.gather_row gather_S100001x256_S16384x1_S16384x256_1_0_n_n_0_1_1256 rfl rfl rfl rfl rfl a0 (rowWords a1) n j ⟨(a1 (ix1 n)).toNat, by omega⟩
    ((rowWords_apply a1 h n 0).trans (by simp)) (by norm_num)

/-! ## The scatter -/

theorem lands (w : IVec S16384x1 32) (n : Fin 16384) (j' : Fin 256) (r : Fin 100001) (j : Fin 256) :
    (scatter_S100001x256_S16384x1_S16384x256_1_0_0_1).resultIdx? (ix2 n j') w = some (ix2 r j)
      ↔ (w (ix2 n (0 : Fin 1))).toInt = (r.val : Int) ∧ j' = j := by
  rw [resultIdx?_ix2]
  have s0 : (scatter_S100001x256_S16384x1_S16384x256_1_0_0_1).start (ix2 n j') w 0 = (w (ix2 n (0 : Fin 1))).toInt := by
    unfold ScatterDims.start
    rw [dif_pos (show (0 : Fin 2) ∈ (scatter_S100001x256_S16384x1_S16384x256_1_0_0_1).scatterDimsToOperandDims from List.mem_singleton.mpr rfl)]
    refine congrArg (fun k => (w k).toInt) (funext fun b => Fin.ext ?_)
    match b with
    | ⟨0, _⟩ => rfl
    | ⟨1, _⟩ => rfl
  have s1 : (scatter_S100001x256_S16384x1_S16384x256_1_0_0_1).start (ix2 n j') w 1 = 0 := rfl
  have w0 : (scatter_S100001x256_S16384x1_S16384x256_1_0_0_1).window (ix2 n j') 0 = 0 := rfl
  have w1 : (scatter_S100001x256_S16384x1_S16384x256_1_0_0_1).window (ix2 n j') 1 = j'.val := rfl
  rw [s0, s1, w0, w1, Fin.ext_iff]
  omega

/-- A fold that overwrites at each hit ends with the last hit's value, or with what it began with. -/
theorem fold_last {α : Type} : ∀ {N : ℕ} (P : Fin N → Prop) [DecidablePred P] (v : Fin N → α) (a : α) (k : Fin N), P k → (∀ k', k < k' → ¬ P k') →
    (List.finRange N).foldl (fun a n => if P n then v n else a) a = v k
  | 0, _, _, _, _, k, _, _ => k.elim0
  | N + 1, P, _, v, a, k, hk, hl => by
    rw [List.finRange_succ_last, List.foldl_append, List.foldl_map]
    show (if P (Fin.last N) then v (Fin.last N) else _) = v k
    by_cases e : k = Fin.last N
    · subst e; rw [if_pos hk]
    · have hlt : k.val < N := by
        have := k.isLt
        have : k.val ≠ N := fun e' => e (Fin.ext e')
        omega
      rw [if_neg (hl _ (show k.val < N from hlt))]
      exact fold_last (fun n => P n.castSucc) (fun n => v n.castSucc) a ⟨k.val, hlt⟩ hk fun k' h' => hl k'.castSucc h'

theorem fold_none {α β : Type} (P : β → Prop) [DecidablePred P] (v : β → α) (a : α) : ∀ l : List β, (∀ k ∈ l, ¬ P k) →
    l.foldl (fun a n => if P n then v n else a) a = a
  | [], _ => rfl
  | b :: l, h => by
    rw [List.foldl_cons, if_neg (h b List.mem_cons_self)]
    exact fold_none P v a l fun k hk => h k (List.mem_cons_of_mem _ hk)

/-- An update lands in row `r` when its row number is `r`. -/
theorem lands_row (a1 : IVec S16384 32) (h : Small a1) (n : Fin 16384) (j' : Fin 256) (r : Fin 100001) (j : Fin 256) :
    (scatter_S100001x256_S16384x1_S16384x256_1_0_0_1).resultIdx? (ix2 n j') (rowWords a1) = some (ix2 r j)
      ↔ (a1 (ix1 n)).toNat = r.val ∧ j' = j := by
  have hn := h (ix1 n)
  rw [lands, rowWords_apply a1 h, WordCmp.toInt_eq_toNat_of_lt_half (show (a1 (ix1 n)).toNat < 2 ^ (32 - 1) by omega)]
  omega

variable (a1 : IVec S16384 32) (h : Small a1) (a8 : FVec F S100001x256 .f32) (u : FVec F S16384x256 .f32) (r : Fin 100001) (j : Fin 256)

include h in
/-- A row some entry names holds the last such entry's update. -/
theorem ref_hit (n : Fin 16384) (hn : (a1 (ix1 n)).toNat = r.val) (hlast : ∀ n' : Fin 16384, n < n' → (a1 (ix1 n')).toNat ≠ r.val) :
    Host.scatter scatter_S100001x256_S16384x1_S16384x256_1_0_0_1 (fun _ b => b) a8 (rowWords a1) u (ix2 r j) = u (ix2 n j) := by
  rw [scatter_at]
  refine (fold_last (fun p : Fin S16384x256.numel => (scatter_S100001x256_S16384x1_S16384x256_1_0_0_1).resultIdx? (S16384x256.rowMajor.symm p) (rowWords a1) = some (ix2 r j))
    (fun p => u (S16384x256.rowMajor.symm p)) _ (S16384x256.rowMajor (ix2 n j)) ?_ ?_).trans ?_
  · show _ = _
    rw [Equiv.symm_apply_apply]
    exact (lands_row a1 h n j r j).2 ⟨hn, rfl⟩
  · intro k' hk' hp
    obtain ⟨n', j', e⟩ : ∃ (n' : Fin 16384) (j' : Fin 256), S16384x256.rowMajor.symm k' = ix2 n' j' := ⟨_, _, ValueIdx.eq_ix2 _⟩
    rw [e] at hp
    obtain ⟨h1, rfl⟩ := (lands_row a1 h n' j' r j).1 hp
    refine hlast n' ?_ h1
    have ek : k' = S16384x256.rowMajor (ix2 n' j') := ((Equiv.symm_apply_eq _).1 e)
    rw [ek] at hk'
    have hv : (S16384x256.rowMajor (ix2 n j')).val < (S16384x256.rowMajor (ix2 n' j')).val := hk'
    rw [Shape.rowMajor_val_two, Shape.rowMajor_val_two] at hv
    have hv' : n.val * 256 + j'.val < n'.val * 256 + j'.val := hv
    show n.val < n'.val
    omega
  · show u (S16384x256.rowMajor.symm (S16384x256.rowMajor (ix2 n j))) = _
    rw [Equiv.symm_apply_apply]

include h in
/-- A row no entry names is left as it was. -/
theorem ref_miss (hno : ∀ n : Fin 16384, (a1 (ix1 n)).toNat ≠ r.val) :
    Host.scatter scatter_S100001x256_S16384x1_S16384x256_1_0_0_1 (fun _ b => b) a8 (rowWords a1) u (ix2 r j) = a8 (ix2 r j) := by
  rw [scatter_at]
  refine fold_none (fun p : Fin S16384x256.numel => (scatter_S100001x256_S16384x1_S16384x256_1_0_0_1).resultIdx? (S16384x256.rowMajor.symm p) (rowWords a1) = some (ix2 r j))
    (fun p => u (S16384x256.rowMajor.symm p)) _ _ fun k _ hp => ?_
  obtain ⟨n', j', e⟩ : ∃ (n' : Fin 16384) (j' : Fin 256), S16384x256.rowMajor.symm k = ix2 n' j' := ⟨_, _, ValueIdx.eq_ix2 _⟩
  rw [e] at hp
  exact hno n' ((lands_row a1 h n' j' r j).1 hp).1

end Cert.Proof

end
-- ==== Proof.Result.lean ====
/-
  The result of the kernel and the result of the reference, at exact arithmetic: the same array.

  A row some index names holds the new state of the last node naming it; every other row is the table's.
-/
module

public import proofs.«01_k».proof.Proof.Run
public import proofs.«01_k».proof.Proof.Value
public import proofs.«01_k».proof.Proof.CellValue
public import proofs.«01_k».proof.Proof.Ref
public import proofs.«01_k».proof.Proof.Gen.ReferenceIdeal.Run
public import Idealize.ShloMosaic.Lib.Pointwise.IndexBridge
public import Idealize.ShloMosaic.Lib.StableHlo.ReadAt

@[expose] public section

noncomputable section

namespace Cert.Proof

open Cert.KernelIdeal Cert.KernelIdeal.Gen
open Idealize.ShloMosaic Idealize.ShloMosaic.TcCoe Idealize.ShloMosaic.Tactic
open Idealize.SL Idealize.SL.RA

/-! ## A unit axis in the middle, added and dropped -/

theorem lift_apply {α : Type} {N : ℕ} (x : (⟨2, ![N, 256]⟩ : Shape).Idx → α) (h : (⟨2, ![N, 256]⟩ : Shape).ShapeCasts ⟨3, ![N, 1, 256]⟩)
    (n : Fin N) (u : Fin 1) (j : Fin 256) : shapeCast ⟨3, ![N, 1, 256]⟩ x h (ValueIdx.ix3 n u j) = x (ValueIdx.ix2 n j) := by
  refine shapeCast_apply x h _ _ ?_
  rw [Shape.rowMajor_val_two, Shape.rowMajor_val_three]
  show n.val * 256 + j.val = (n.val * 1 + u.val) * 256 + j.val
  omega

theorem drop_apply {α : Type} {N : ℕ} (x : (⟨3, ![N, 1, 256]⟩ : Shape).Idx → α) (h : (⟨3, ![N, 1, 256]⟩ : Shape).ShapeCasts ⟨2, ![N, 256]⟩)
    (n : Fin N) (j : Fin 256) : shapeCast ⟨2, ![N, 256]⟩ x h (ValueIdx.ix2 n j) = x (ValueIdx.ix3 n (0 : Fin 1) j) := by
  refine shapeCast_apply x h _ _ ?_
  rw [Shape.rowMajor_val_two, Shape.rowMajor_val_three]
  show (n.val * 1 + 0) * 256 + j.val = n.val * 256 + j.val
  omega

/-! ## The buffers on the way -/

section Way

variable {F : FTy → Type} [FloatOps F] (m : (ℓ : Loc nD τ sig) → Buf (Elt F) ℓ) (hs : Small (table m)) (c : Dev nD)

theorem W1_v0 : W1 m c main_v0 = shapeCast S100001x1x256 (V0 m c main_arg0) shapeCasts_S100001x256_S100001x1x256 := by
  unfold W1 hostOps0
  after_results_simp
  rfl

theorem W2_v1 : W2 m hs c main_v1 = gathered (table m) hs (W1 m c main_v0) :=
  (Pipeline.afterRegion_arr (dat0 (W1 m) c (adm0 (table m) hs)) (W1 m c) (launch0 (F := F)).win.arr_inj 1).trans
    (gather_value (W1 m) c (table m) hs)

theorem W3_v2 : W3 m hs c main_v2 = shapeCast S16384x256 (W2 m hs c main_v1) shapeCasts_S16384x1x256_S16384x256 := by
  unfold W3 hostOps1
  after_results_simp
  rfl

theorem W5_v4 : W5 m hs c main_v4 = shapeCast S16384x1x256 (W4 m hs c main_v3) shapeCasts_S16384x256_S16384x1x256 := by
  unfold W5 hostOps2
  after_results_simp
  rfl

theorem W5_v6 : W5 m hs c main_v6 = shapeCast S100001x1x256 (W4 m hs c main_arg8) shapeCasts_S100001x256_S100001x1x256 := by
  unfold W5 hostOps2
  after_results_simp
  rfl

theorem W6_v6 : W6 m hs c main_v6 = (dat2 (W5 m hs) c (adm2 (table m) hs)).arrAt 1 (cfg2 (adm2 (F := F) (table m) hs)).N :=
  Pipeline.afterRegion_arr (dat2 (W5 m hs) c (adm2 (table m) hs)) (W5 m hs c) (launch2 (F := F)).win.arr_inj 1

theorem W7_v7 : W7 m hs c main_v7 = shapeCast S100001x256 (W6 m hs c main_v6) shapeCasts_S100001x1x256_S100001x256 := by
  unfold W7 hostOps3
  after_results_simp
  rfl

/-- The old states, as the cell call reads them: row `table n` of the memory. -/
theorem W3_v2_apply (n : Fin 16384) (j : Fin 256) :
    W3 m hs c main_v2 (ValueIdx.ix2 n j) = V0 m c main_arg0 (ValueIdx.ix2 ⟨(table m (ValueIdx.ix1 n)).toNat, by have := hs (ValueIdx.ix1 n); omega⟩ j) := by
  rw [W3_v2, W2_v1, W1_v0]
  refine (drop_apply _ _ n j).trans ?_
  exact lift_apply (V0 m c main_arg0) _ _ _ j

variable (r : Fin 100001) (j : Fin 256)

theorem W7_hit (n : Fin 16384) (hn : (table m (ValueIdx.ix1 n)).toNat = r.val)
    (hlast : ∀ n' : Fin 16384, n < n' → (table m (ValueIdx.ix1 n')).toNat ≠ r.val) :
    W7 m hs c main_v7 (ValueIdx.ix2 r j) = W4 m hs c main_v3 (ValueIdx.ix2 n j) := by
  rw [W7_v7]
  refine (drop_apply _ _ r j).trans ?_
  rw [W6_v6]
  refine (scatter_hit (W5 m hs) c (table m) hs (ValueIdx.ix3 r (0 : Fin 1) j) n hn hlast).trans ?_
  rw [W5_v4]
  exact lift_apply _ _ n _ j

theorem W7_miss (hno : ∀ n : Fin 16384, (table m (ValueIdx.ix1 n)).toNat ≠ r.val) :
    W7 m hs c main_v7 (ValueIdx.ix2 r j) = V0 m c main_arg8 (ValueIdx.ix2 r j) := by
  rw [W7_v7]
  refine (drop_apply _ _ r j).trans ?_
  rw [W6_v6]
  refine (scatter_miss (W5 m hs) c (table m) hs (ValueIdx.ix3 r (0 : Fin 1) j) hno).trans ?_
  rw [W5_v6, W4_kept m hs c main_arg8 (by decide)]
  exact lift_apply _ _ r _ j

end Way

/-! ## The new states -/

section States

variable (m : (ℓ : Loc nD τ sig) → Buf (Elt Ideal) ℓ) (hs : Small (table m)) (c : Dev nD)

theorem allNew_apply (x h : S16384x256.Idx → EReal) (W : S256x256.Idx → EReal) (Wi Wh : S768x256.Idx → EReal) (bi bh : S768.Idx → EReal)
    (n : Fin 16384) (j : Fin 256) :
    allNew x h W Wi Wh bi bh (ValueIdx.ix2 n j) = newState (fun q => x (ValueIdx.ix2 n q)) (fun q => h (ValueIdx.ix2 n q))
      (fun q k => W (ValueIdx.ix2 q k)) (fun q k => Wi (ValueIdx.ix2 q k)) (fun q k => Wh (ValueIdx.ix2 q k))
      (fun q => bi (ValueIdx.ix1 q)) (fun q => bh (ValueIdx.ix1 q)) j := by
  unfold allNew
  simp only [ix2_eq_valueIdx, ix1_eq_valueIdx]

theorem mixed_apply (a2 h : FVec Ideal S16384x256 .f32) (a3 : FVec Ideal S256x256 .f32) (a4 a5 : FVec Ideal S768x256 .f32)
    (a6 a7 : FVec Ideal S768 .f32) (n : Fin 16384) (j : Fin 256) :
    refMix (refInput a2 a3 a4 a6) (refState h a5 a7) h (ValueIdx.ix2 n j)
      = newState (fun q => a2 (ValueIdx.ix2 n q)) (fun q => h (ValueIdx.ix2 n q))
      (fun q k => a3 (ValueIdx.ix2 q k)) (fun q k => a4 (ValueIdx.ix2 q k)) (fun q k => a5 (ValueIdx.ix2 q k))
      (fun q => a6 (ValueIdx.ix1 q)) (fun q => a7 (ValueIdx.ix1 q)) j := by
  have e := ref_cell a2 h a3 a4 a5 a6 a7 n j
  simp only [ix2_eq_valueIdx, ix1_eq_valueIdx] at e
  exact e

theorem W4_v3 : W4 m hs c main_v3 = allNew (V0 m c main_arg2) (W3 m hs c main_v2) (V0 m c main_arg3) (V0 m c main_arg4) (V0 m c main_arg5)
    (V0 m c main_arg6) (V0 m c main_arg7) := by
  refine (Pipeline.afterRegion_arr (dat1 (W3 m hs) c) (W3 m hs c) (launch1 (F := Ideal)).win.arr_inj 7).trans ((cell_value (W3 m hs) c).trans ?_)
  rw [W3_kept m hs c main_arg2 (by decide), W3_kept m hs c main_arg3 (by decide), W3_kept m hs c main_arg4 (by decide),
    W3_kept m hs c main_arg5 (by decide), W3_kept m hs c main_arg6 (by decide), W3_kept m hs c main_arg7 (by decide)]

/-- The reference's result, its parts named. -/
def refResult (a0 : FVec Ideal S100001x256 .f32) (a1 : IVec S16384 32) (a2 : FVec Ideal S16384x256 .f32) (a3 : FVec Ideal S256x256 .f32)
    (a4 a5 : FVec Ideal S768x256 .f32) (a6 a7 : FVec Ideal S768 .f32) (a8 : FVec Ideal S100001x256 .f32) : FVec Ideal S100001x256 .f32 :=
  Host.scatter Cert.ReferenceIdeal.scatter_S100001x256_S16384x1_S16384x256_1_0_0_1 (fun _ b => b) a8 (rowWords a1)
    (refMix (refInput a2 a3 a4 a6) (refState (takeRows a0 a1) a5 a7) (takeRows a0 a1))

theorem same_row (n : Fin 16384) (j : Fin 256) :
    W4 m hs c main_v3 (ValueIdx.ix2 n j) = refMix (refInput (V0 m c main_arg2) (V0 m c main_arg3) (V0 m c main_arg4) (V0 m c main_arg6))
      (refState (takeRows (V0 m c main_arg0) (table m)) (V0 m c main_arg5) (V0 m c main_arg7)) (takeRows (V0 m c main_arg0) (table m)) (ValueIdx.ix2 n j) := by
  rw [W4_v3, allNew_apply, mixed_apply]
  have e : (fun q : Fin 256 => (W3 m hs c main_v2 (ValueIdx.ix2 n q) : EReal)) = fun q => takeRows (F := Ideal) (V0 m c main_arg0) (table m) (ValueIdx.ix2 n q) := by
    funext q
    exact (W3_v2_apply m hs c n q).trans (takeRows_apply (F := Ideal) (V0 m c main_arg0) (table m) hs n q).symm
  rw [e]

/-- The two results are one array. -/
theorem same_result : W7 m hs c main_v7 = refResult (V0 m c main_arg0) (table m) (V0 m c main_arg2) (V0 m c main_arg3) (V0 m c main_arg4)
    (V0 m c main_arg5) (V0 m c main_arg6) (V0 m c main_arg7) (V0 m c main_arg8) := by
  funext i
  obtain ⟨r, j, rfl⟩ : ∃ (r : Fin 100001) (j : Fin 256), i = ValueIdx.ix2 r j := ⟨i 0, i 1, ValueIdx.eq_ix2 i⟩
  unfold refResult
  by_cases hex : ∃ n : Fin 16384, (table m (ValueIdx.ix1 n)).toNat = r.val
  · obtain ⟨n, hn, hmax⟩ : ∃ n : Fin 16384, (table m (ValueIdx.ix1 n)).toNat = r.val ∧ ∀ n' : Fin 16384, n < n' → (table m (ValueIdx.ix1 n')).toNat ≠ r.val := by
      obtain ⟨n, hn, hm⟩ := (Finset.univ.filter fun n : Fin 16384 => (table m (ValueIdx.ix1 n)).toNat = r.val).exists_max_image id
        (by obtain ⟨n, hn⟩ := hex; exact ⟨n, Finset.mem_filter.2 ⟨Finset.mem_univ _, hn⟩⟩)
      exact ⟨n, (Finset.mem_filter.1 hn).2, fun n' h' e => absurd (hm n' (Finset.mem_filter.2 ⟨Finset.mem_univ _, e⟩)) (not_le.2 h')⟩
    exact (W7_hit m hs c r j n hn hmax).trans ((same_row m hs c n j).trans (ref_hit (F := Ideal) (table m) hs (V0 m c main_arg8) _ r j n hn hmax).symm)
  · have hno : ∀ n : Fin 16384, (table m (ValueIdx.ix1 n)).toNat ≠ r.val := fun n e => hex ⟨n, e⟩
    exact (W7_miss m hs c r j hno).trans (ref_miss (F := Ideal) (table m) hs (V0 m c main_arg8) _ r j hno).symm

end States

/-- The reference's printed result is that of its named parts. -/
theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v46 m' c
      = refResult (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := by
  unfold Cert.ReferenceIdeal.Value.res_main_v46 refResult refMix refInput refState refLogistic ones takeRows rowWords
  rfl

end Cert.Proof

end
-- ==== Proof.lean ====
/-
  The claims: the kernel and its idealized reading run, leave their arguments as they were and every semaphore counter
  at zero; so does the reference; and at exact arithmetic the kernel's result is the reference's.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.Result

@[expose] public section

noncomputable section

namespace Cert.Proof

open Idealize.ShloMosaic Idealize.ShloMosaic.TcCoe Idealize.SL.Sem Cert.Kernel

/-- The idealized kernel's frame. -/
theorem frame_ideal : Cert.quiescent_KernelIdeal := fun m ρ hp =>
  run_frame (F := Ideal) m (small_of_pre _ _ _ _ _ _ _ _ _ (hp 0)) ρ

/-- The reference's frames. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_in_range : Cert.quiescent_ReferenceIdeal_pre_in_range := fun m ρ _ =>
  frame_reference m ρ trivial

/-- At exact arithmetic the kernel and the reference leave one result, whatever the rows named. -/
theorem equal_results : Cert.algebraic_KernelIdeal_ReferenceIdeal := fun m g m' g' hp hargs => by
  have hs := small_of_pre _ _ _ _ _ _ _ _ _ (hp 0)
  refine ⟨fun c => W7 m hs c Cert.KernelIdeal.main_v7, ?_, ?_⟩
  · exact (θ_run _ _ _).mono (fun _ h c => ⟨h.1 c Cert.KernelIdeal.main_v7 rfl,
      (h.1 c Cert.KernelIdeal.main_arg0 rfl).trans (W7_kept m hs c Cert.KernelIdeal.main_arg0 (by decide)),
      (h.1 c Cert.KernelIdeal.main_arg1 rfl).trans (W7_kept m hs c Cert.KernelIdeal.main_arg1 (by decide)),
      (h.1 c Cert.KernelIdeal.main_arg2 rfl).trans (W7_kept m hs c Cert.KernelIdeal.main_arg2 (by decide)),
      (h.1 c Cert.KernelIdeal.main_arg3 rfl).trans (W7_kept m hs c Cert.KernelIdeal.main_arg3 (by decide)),
      (h.1 c Cert.KernelIdeal.main_arg4 rfl).trans (W7_kept m hs c Cert.KernelIdeal.main_arg4 (by decide)),
      (h.1 c Cert.KernelIdeal.main_arg5 rfl).trans (W7_kept m hs c Cert.KernelIdeal.main_arg5 (by decide)),
      (h.1 c Cert.KernelIdeal.main_arg6 rfl).trans (W7_kept m hs c Cert.KernelIdeal.main_arg6 (by decide)),
      (h.1 c Cert.KernelIdeal.main_arg7 rfl).trans (W7_kept m hs c Cert.KernelIdeal.main_arg7 (by decide)),
      (h.1 c Cert.KernelIdeal.main_arg8 rfl).trans (W7_kept m hs c Cert.KernelIdeal.main_arg8 (by decide))⟩) (run_main m hs g)
  · refine (θ_run _ _ _).mono (fun _ h c => ⟨(h c).1.trans ?_, (h c).2⟩) (Cert.ReferenceIdeal.Value.run m' g')
    obtain rfl : c = 0 := Subsingleton.elim _ _
    obtain ⟨h0, h1, h2, h3, h4, h5, h6, h7, h8⟩ := hargs 0
    rw [res_eq, h0, h1, h2, h3, h4, h5, h6, h7, h8]
    exact (same_result m hs 0).symm

theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, equal_results⟩

end Cert.Proof

end
